-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_router : Cert.Pre_finite_router.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ preserves_Kernel_KernelIdeal
    ∧ algebraic_KernelIdeal_ReferenceIdeal_pre_finite_router (hKernelIdeal := hKernelIdeal) (hReferenceIdeal := hReferenceIdeal) (hPre_finite_router := hPre_finite_router)
-- ==== Pre_finite_router.lean ====
abbrev S1x2048x1024 : Shape := ⟨3, ![1, 2048, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S1x2048x1024 .f32) (main_arg1 : FVec F S1024x8 .f32) (main_arg2 : FVec F S8x1024x2048 .f32) (main_arg3 : FVec F S8x1024x2048 .f32) (main_arg4 : FVec F S8x2048x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Kernel.lean ====
abbrev S1x2048x1024 : Shape := ⟨3, ![1, 2048, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S2048x1024 : Shape := ⟨2, ![2048, 1024]⟩
abbrev S8x2048 : Shape := ⟨2, ![8, 2048]⟩
abbrev S8x5120 : Shape := ⟨2, ![8, 5120]⟩
abbrev S8x128 : Shape := ⟨2, ![8, 128]⟩
abbrev S2048x8 : Shape := ⟨2, ![2048, 8]⟩
abbrev S2048 : Shape := ⟨1, ![2048]⟩
abbrev S2048x1 : Shape := ⟨2, ![2048, 1]⟩
abbrev S8 : Shape := ⟨1, ![8]⟩
abbrev S1x8 : Shape := ⟨2, ![1, 8]⟩
abbrev S8x8 : Shape := ⟨2, ![8, 8]⟩
abbrev S2048x2048 : Shape := ⟨2, ![2048, 2048]⟩
abbrev S1x2048 : Shape := ⟨2, ![1, 2048]⟩
abbrev S1x512 : Shape := ⟨2, ![1, 512]⟩
abbrev S2048x512 : Shape := ⟨2, ![2048, 512]⟩
abbrev S512 : Shape := ⟨1, ![512]⟩
abbrev S5120 : Shape := ⟨1, ![5120]⟩
abbrev S1x5120 : Shape := ⟨2, ![1, 5120]⟩
abbrev S1x128 : Shape := ⟨2, ![1, 128]⟩
abbrev S1x1 : Shape := ⟨2, ![1, 1]⟩
abbrev S128 : Shape := ⟨1, ![128]⟩
abbrev S1x40 : Shape := ⟨2, ![1, 40]⟩
abbrev S40 : Shape := ⟨1, ![40]⟩
abbrev S40x1x128 : Shape := ⟨3, ![40, 1, 128]⟩
abbrev S_ : Shape := ⟨0, ![]⟩
abbrev S5120x1 : Shape := ⟨2, ![5120, 1]⟩
abbrev S1 : Shape := ⟨1, ![1]⟩
abbrev S5120x1024 : Shape := ⟨2, ![5120, 1024]⟩
abbrev S128x1024 : Shape := ⟨2, ![128, 1024]⟩
abbrev S1x1024x2048 : Shape := ⟨3, ![1, 1024, 2048]⟩
abbrev S1x1x128 : Shape := ⟨3, ![1, 1, 128]⟩
abbrev S1024x2048 : Shape := ⟨2, ![1024, 2048]⟩
abbrev S128x2048 : Shape := ⟨2, ![128, 2048]⟩
abbrev S128x128 : Shape := ⟨2, ![128, 128]⟩

abbrev nBuf : Space → Nat
  | .hbm => 92
  | .vmem => 18
  | .smem => 1
  | _ => 0

abbrev bufTy : (tb : Table) → Fin (tcTables nBuf tb) → BufTy
  | .hbm, ⟨0, _⟩ => ⟨S1x2048x1024, .f32⟩
  | .hbm, ⟨1, _⟩ => ⟨S1024x8, .f32⟩
  | .hbm, ⟨2, _⟩ => ⟨S8x1024x2048, .f32⟩
  | .hbm, ⟨3, _⟩ => ⟨S8x1024x2048, .f32⟩
  | .hbm, ⟨4, _⟩ => ⟨S8x2048x1024, .f32⟩
  | .hbm, ⟨5, _⟩ => ⟨S2048x1024, .f32⟩
  | .hbm, ⟨6, _⟩ => ⟨S8x2048, .i32⟩
  | .hbm, ⟨7, _⟩ => ⟨S8x5120, .f32⟩
  | .hbm, ⟨8, _⟩ => ⟨S8x5120, .i32⟩
  | .hbm, ⟨9, _⟩ => ⟨S8x128, .i32⟩
  | .hbm, ⟨10, _⟩ => ⟨S1x40, .i32⟩
  | .hbm, ⟨11, _⟩ => ⟨S1x5120, .i32⟩
  | .hbm, ⟨12, _⟩ => ⟨S5120, .i32⟩
  | .hbm, ⟨13, _⟩ => ⟨S1x5120, .f32⟩
  | .hbm, ⟨14, _⟩ => ⟨S5120, .f32⟩
  | .hbm, ⟨15, _⟩ => ⟨S40x1x128, .f32⟩
  | .hbm, ⟨16, _⟩ => ⟨S_, .i32⟩
  | .hbm, ⟨17, _⟩ => ⟨S5120, .i32⟩
  | .hbm, ⟨18, _⟩ => ⟨S5120, .i1⟩
  | .hbm, ⟨19, _⟩ => ⟨S_, .i32⟩
  | .hbm, ⟨20, _⟩ => ⟨S5120, .i32⟩
  | .hbm, ⟨21, _⟩ => ⟨S5120, .i32⟩
  | .hbm, ⟨22, _⟩ => ⟨S5120, .i32⟩
  | .hbm, ⟨23, _⟩ => ⟨S5120x1, .i32⟩
  | .hbm, ⟨24, _⟩ => ⟨S1, .i32⟩
  | .hbm, ⟨25, _⟩ => ⟨S_, .i32⟩
  | .hbm, ⟨26, _⟩ => ⟨S5120x1, .i32⟩
  | .hbm, ⟨27, _⟩ => ⟨S5120x1, .i1⟩
  | .hbm, ⟨28, _⟩ => ⟨S1x1, .i32⟩
  | .hbm, ⟨29, _⟩ => ⟨S5120x1, .i32⟩
  | .hbm, ⟨30, _⟩ => ⟨S5120x1, .i1⟩
  | .hbm, ⟨31, _⟩ => ⟨S5120x1, .i1⟩
  | .hbm, ⟨32, _⟩ => ⟨S_, .i1⟩
  | .hbm, ⟨33, _⟩ => ⟨S5120, .i1⟩
  | .hbm, ⟨34, _⟩ => ⟨S5120x1024, .f32⟩
  | .hbm, ⟨35, _⟩ => ⟨S5120x1024, .i1⟩
  | .hbm, ⟨36, _⟩ => ⟨S_, .f32⟩
  | .hbm, ⟨37, _⟩ => ⟨S5120x1024, .f32⟩
  | .hbm, ⟨38, _⟩ => ⟨S5120x1024, .f32⟩
  | .hbm, ⟨39, _⟩ => ⟨S5120x1024, .f32⟩
  | .hbm, ⟨40, _⟩ => ⟨S1x2048, .i32⟩
  | .hbm, ⟨41, _⟩ => ⟨S2048, .i32⟩
  | .hbm, ⟨42, _⟩ => ⟨S_, .i32⟩
  | .hbm, ⟨43, _⟩ => ⟨S2048, .i32⟩
  | .hbm, ⟨44, _⟩ => ⟨S2048, .i1⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S2048x1, .i32⟩
  | .hbm, ⟨50, _⟩ => ⟨S1, .i32⟩
  | .hbm, ⟨51, _⟩ => ⟨S_, .i32⟩
  | .hbm, ⟨52, _⟩ => ⟨S2048x1, .i32⟩
  | .hbm, ⟨53, _⟩ => ⟨S2048x1, .i1⟩
  | .hbm, ⟨54, _⟩ => ⟨S1x1, .i32⟩
  | .hbm, ⟨55, _⟩ => ⟨S2048x1, .i32⟩
  | .hbm, ⟨56, _⟩ => ⟨S2048x1, .i1⟩
  | .hbm, ⟨57, _⟩ => ⟨S2048x1, .i1⟩
  | .hbm, ⟨58, _⟩ => ⟨S_, .i1⟩
  | .hbm, ⟨59, _⟩ => ⟨S2048, .i1⟩
  | .hbm, ⟨60, _⟩ => ⟨S2048x1024, .f32⟩
  | .hbm, ⟨61, _⟩ => ⟨S2048x1024, .i1⟩
  | .hbm, ⟨62, _⟩ => ⟨S_, .f32⟩
  | .hbm, ⟨63, _⟩ => ⟨S2048x1024, .f32⟩
  | .hbm, ⟨64, _⟩ => ⟨S2048x1024, .f32⟩
  | .hbm, ⟨65, _⟩ => ⟨S1x2048, .i32⟩
  | .hbm, ⟨66, _⟩ => ⟨S2048, .i32⟩
  | .hbm, ⟨67, _⟩ => ⟨S_, .i32⟩
  | .hbm, ⟨68, _⟩ => ⟨S2048, .i32⟩
  | .hbm, ⟨69, _⟩ => ⟨S2048, .i1⟩
  | .hbm, ⟨70, _⟩ => ⟨S_, .i32⟩
  | .hbm, ⟨71, _⟩ => ⟨S2048, .i32⟩
  | .hbm, ⟨72, _⟩ => ⟨S2048, .i32⟩
  | .hbm, ⟨73, _⟩ => ⟨S2048, .i32⟩
  | .hbm, ⟨74, _⟩ => ⟨S2048x1, .i32⟩
  | .hbm, ⟨75, _⟩ => ⟨S1, .i32⟩
  | .hbm, ⟨76, _⟩ => ⟨S_, .i32⟩
  | .hbm, ⟨77, _⟩ => ⟨S2048x1, .i32⟩
  | .hbm, ⟨78, _⟩ => ⟨S2048x1, .i1⟩
  | .hbm, ⟨79, _⟩ => ⟨S1x1, .i32⟩
  | .hbm, ⟨80, _⟩ => ⟨S2048x1, .i32⟩
  | .hbm, ⟨81, _⟩ => ⟨S2048x1, .i1⟩
  | .hbm, ⟨82, _⟩ => ⟨S2048x1, .i1⟩
  | .hbm, ⟨83, _⟩ => ⟨S_, .i1⟩
  | .hbm, ⟨84, _⟩ => ⟨S2048, .i1⟩
  | .hbm, ⟨85, _⟩ => ⟨S2048x1024, .f32⟩
  | .hbm, ⟨86, _⟩ => ⟨S2048x1024, .i1⟩
  | .hbm, ⟨87, _⟩ => ⟨S_, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S1x2048x1024, .f32⟩
  | .local _ .vmem, ⟨0, _⟩ => ⟨S2048x1024, .f32⟩
  | .local _ .vmem, ⟨1, _⟩ => ⟨S1024x8, .f32⟩
  | .local _ .vmem, ⟨2, _⟩ => ⟨S8x2048, .i32⟩
  | .local _ .vmem, ⟨3, _⟩ => ⟨S8x5120, .f32⟩
  | .local _ .vmem, ⟨4, _⟩ => ⟨S8x5120, .i32⟩
  | .local _ .vmem, ⟨5, _⟩ => ⟨S8x128, .i32⟩
  | .local _ .vmem, ⟨6, _⟩ => ⟨S128x1024, .f32⟩
  | .local _ .vmem, ⟨7, _⟩ => ⟨S128x1024, .f32⟩
  | .local _ .vmem, ⟨8, _⟩ => ⟨S1x1024x2048, .f32⟩
  | .local _ .vmem, ⟨9, _⟩ => ⟨S1x1024x2048, .f32⟩
  | .local _ .vmem, ⟨10, _⟩ => ⟨S1x1024x2048, .f32⟩
  | .local _ .vmem, ⟨11, _⟩ => ⟨S1x1024x2048, .f32⟩
  | .local _ .vmem, ⟨12, _⟩ => ⟨S1x2048x1024, .f32⟩
  | .local _ .vmem, ⟨13, _⟩ => ⟨S1x2048x1024, .f32⟩
  | .local _ .vmem, ⟨14, _⟩ => ⟨S1x1x128, .f32⟩
  | .local _ .vmem, ⟨15, _⟩ => ⟨S1x1x128, .f32⟩
  | .local _ .vmem, ⟨16, _⟩ => ⟨S128x1024, .f32⟩
  | .local _ .vmem, ⟨17, _⟩ => ⟨S128x1024, .f32⟩
  | .local _ .smem, ⟨0, _⟩ => ⟨S40, .i32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v16 : Ref sig .tc := ⟨.hbm, 89, rfl⟩
abbrev main_v17 : Ref sig .tc := ⟨.hbm, 90, rfl⟩
abbrev main_v18 : Ref sig .tc := ⟨.hbm, 91, rfl⟩
abbrev main_v3 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := .none

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x5120 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![40], ![false]⟩

abbrev pre1 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S1x2048x1024 : Shape := ⟨3, ![1, 2048, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S2048x1024 : Shape := ⟨2, ![2048, 1024]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S2048x2x1 : Shape := ⟨3, ![2048, 2, 1]⟩
abbrev S1x1x8 : Shape := ⟨3, ![1, 1, 8]⟩
abbrev S2048x2x8 : Shape := ⟨3, ![2048, 2, 8]⟩
abbrev S8x2048x2048 : Shape := ⟨3, ![8, 2048, 2048]⟩

abbrev nBuf : Space → Nat
  | .hbm => 51
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x8, .f32⟩
  | .hbm, ⟨2, _⟩ => ⟨S8x1024x2048, .f32⟩
  | .hbm, ⟨3, _⟩ => ⟨S8x1024x2048, .f32⟩
  | .hbm, ⟨4, _⟩ => ⟨S8x2048x1024, .f32⟩
  | .hbm, ⟨5, _⟩ => ⟨S2048x1024, .f32⟩
  | .hbm, ⟨6, _⟩ => ⟨S2048x8, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S2048x1, .f32⟩
  | .hbm, ⟨13, _⟩ => ⟨S2048x8, .f32⟩
  | .hbm, ⟨14, _⟩ => ⟨S2048x8, .f32⟩
  | .hbm, ⟨15, _⟩ => ⟨S2048x8, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S2048x8, .f32⟩
  | .hbm, ⟨20, _⟩ => ⟨S2048x8, .f32⟩
  | .hbm, ⟨21, _⟩ => ⟨S2048x2, .f32⟩
  | .hbm, ⟨22, _⟩ => ⟨S2048x2, .i32⟩
  | .hbm, ⟨23, _⟩ => ⟨S2048x2x1, .i32⟩
  | .hbm, ⟨24, _⟩ => ⟨S1x1x8, .i32⟩
  | .hbm, ⟨25, _⟩ => ⟨S2048x2x8, .i32⟩
  | .hbm, ⟨26, _⟩ => ⟨S2048x2x8, .i32⟩
  | .hbm, ⟨27, _⟩ => ⟨S2048x2x8, .i1⟩
  | .hbm, ⟨28, _⟩ => ⟨S2048x2x8, .f32⟩
  | .hbm, ⟨29, _⟩ => ⟨S2048x2x1, .f32⟩
  | .hbm, ⟨30, _⟩ => ⟨S2048x2x8, .f32⟩
  | .hbm, ⟨31, _⟩ => ⟨S2048x2x8, .f32⟩
  | .hbm, ⟨32, _⟩ => ⟨S_, .f32⟩
  | .hbm, ⟨33, _⟩ => ⟨S2048x8, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048x2048, .f32⟩
  | .hbm, ⟨42, _⟩ => ⟨S8x2048x2048, .f32⟩
  | .hbm, ⟨43, _⟩ => ⟨S_, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S8x2048x1024, .f32⟩
  | .hbm, ⟨49, _⟩ => ⟨S2048x1024, .f32⟩
  | .hbm, ⟨50, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_values : Ref sig .tc := ⟨.hbm, 21, rfl⟩
abbrev main_indices : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩

abbrev nD : Nat := 1
abbrev τ : Topo := Topo.v7x

variable {F : FTy → Type} [FloatOps F]
-- ==== Proof.Kernel.Bound.lean ====
module

public import proofs.«01_k».proof.Proof.Kernel.Table
public import Idealize.ShloMosaic.Lib.NatWordsOrder

@[expose] public section

set_option maxRecDepth 16384

noncomputable section

namespace Cert.Kernel.Run

open Cert.Kernel.Gen
open Idealize.ShloMosaic Idealize.ShloMosaic.Bits

/-- On the machine's words the expert of a tile is the number of comparisons that hold, at most seven. -/
theorem tileWord_bits (b : Fin 8 → BitVec 1) : (tileWord Bits b).toNat ≤ 7 := by
  have h0 : (FloatOps.ofBits .f32 0x00000000#32 : Bits .f32) = f32OfNat 0 := f32OfNat_zero.symm
  have h7 : (FloatOps.ofBits .f32 0x40E00000#32 : Bits .f32) = f32OfNat 7 := by
    rw [f32OfNat_eq 7 (by decide)]; decide
  have hs : ∀ x : BitVec 1, (FloatOps.sitofp .f32 (BitVec.setWidth 32 x) : Bits .f32) = f32OfNat x.toNat := by
    intro x
    have hx : x.toNat < 2 := x.isLt
    have e : (BitVec.setWidth 32 x).toNat = x.toNat := by
      rw [BitVec.toNat_setWidth]; omega
    refine (sitofp32_eq_f32OfNat (BitVec.setWidth 32 x) (by decide) (by rw [e]; omega)).trans ?_
    rw [e]
  have ha : ∀ n k : Nat, n + k < 100 → (FloatOps.addf (f32OfNat n) (f32OfNat k) : Bits .f32) = f32OfNat (n + k) :=
    fun n k h => addf32_nat n k (by omega)
  have hb : ∀ e, (b e).toNat < 2 := fun e => (b e).isLt
  have b0 := hb 0
  have b1 := hb 1
  have b2 := hb 2
  have b3 := hb 3
  have b4 := hb 4
  have b5 := hb 5
  have b6 := hb 6
  have b7 := hb 7
  unfold tileWord
  rw [h0, h7]
  simp only [hs]
  rw [ha _ _ (by omega), ha _ _ (by omega), ha _ _ (by omega), ha _ _ (by omega), ha _ _ (by omega), ha _ _ (by omega),
    ha _ _ (by omega), ha _ _ (by omega)]
  generalize hn : 0 + (b 0).toNat + (b 1).toNat + (b 2).toNat + (b 3).toNat + (b 4).toNat + (b 5).toNat + (b 6).toNat + (b 7).toNat = n
  have hm : (FloatOps.minimumf (f32OfNat n) (f32OfNat 7) : Bits .f32) = f32OfNat (min n 7) := minf32_nat (by omega) (by omega)
  have hf : ∀ k : Nat, k ≤ 7 → (FloatOps.fptosi 32 (f32OfNat k : Bits .f32) : BitVec 32) = BitVec.ofNat 32 k :=
    fun k h => fptosi32_nat k (by omega)
  rw [hm, hf _ (by omega), BitVec.toNat_ofNat]
  omega

end Cert.Kernel.Run

end
-- ==== Proof.KernelIdeal.RouterOut.lean ====
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Regions
public import Idealize.ShloMosaic.Lib.Pipeline.FrameBody
public import Idealize.ShloMosaic.Lib.Writes
public import Idealize.ShloMosaic.Lib.Pipeline.Value
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores that fill an array of eight rows of 5120: ten blocks of 512 across the first row, then the other
    seven rows whole, last first. -/
def sortedPieces {e : EltTy} (w0 w1 w2 w3 w4 w5 w6 w7 w8 w9 : Vec F S1x512 e) (z1 z2 z3 z4 z5 z6 z7 : Vec F S1x5120 e) :
    List (View.Piece (Elt F) S8x5120 e) :=
  [⟨Rect.unit (s := S8x5120) ![7, 0] S1x5120.size (by decide), z7⟩,
    ⟨Rect.unit (s := S8x5120) ![6, 0] S1x5120.size (by decide), z6⟩,
    ⟨Rect.unit (s := S8x5120) ![5, 0] S1x5120.size (by decide), z5⟩,
    ⟨Rect.unit (s := S8x5120) ![4, 0] S1x5120.size (by decide), z4⟩,
    ⟨Rect.unit (s := S8x5120) ![3, 0] S1x5120.size (by decide), z3⟩,
    ⟨Rect.unit (s := S8x5120) ![2, 0] S1x5120.size (by decide), z2⟩,
    ⟨Rect.unit (s := S8x5120) ![1, 0] S1x5120.size (by decide), z1⟩,
    ⟨Rect.unit (s := S8x5120) ![0, 4608] S1x512.size (by decide), w9⟩,
    ⟨Rect.unit (s := S8x5120) ![0, 4096] S1x512.size (by decide), w8⟩,
    ⟨Rect.unit (s := S8x5120) ![0, 3584] S1x512.size (by decide), w7⟩,
    ⟨Rect.unit (s := S8x5120) ![0, 3072] S1x512.size (by decide), w6⟩,
    ⟨Rect.unit (s := S8x5120) ![0, 2560] S1x512.size (by decide), w5⟩,
    ⟨Rect.unit (s := S8x5120) ![0, 2048] S1x512.size (by decide), w4⟩,
    ⟨Rect.unit (s := S8x5120) ![0, 1536] S1x512.size (by decide), w3⟩,
    ⟨Rect.unit (s := S8x5120) ![0, 1024] S1x512.size (by decide), w2⟩,
    ⟨Rect.unit (s := S8x5120) ![0, 512] S1x512.size (by decide), w1⟩,
    ⟨Rect.unit (s := S8x5120) ![0, 0] S1x512.size (by decide), w0⟩]

/-- Those stores fill the whole array. -/
theorem sortedPieces_cover {e : EltTy} (w0 w1 w2 w3 w4 w5 w6 w7 w8 w9 : Vec F S1x512 e) (z1 z2 z3 z4 z5 z6 z7 : Vec F S1x5120 e)
    (y : S8x5120.Idx) : ∃ p ∈ sortedPieces w0 w1 w2 w3 w4 w5 w6 w7 w8 w9 z1 z2 z3 z4 z5 z6 z7, y ∈ p.1.set := by
  have h0 : (y 0).val < 8 := (y 0).isLt
  have h1 : (y 1).val < 5120 := (y 1).isLt
  by_cases hz : (y 0).val = 0
  · rcases (by omega : (y 1).val / 512 = 0 ∨ (y 1).val / 512 = 1 ∨ (y 1).val / 512 = 2 ∨ (y 1).val / 512 = 3 ∨ (y 1).val / 512 = 4
      ∨ (y 1).val / 512 = 5 ∨ (y 1).val / 512 = 6 ∨ (y 1).val / 512 = 7 ∨ (y 1).val / 512 = 8 ∨ (y 1).val / 512 = 9) with
      hb | hb | hb | hb | hb | hb | hb | hb | hb | hb
    · refine ⟨_, List.mem_of_getElem? (i := 16) rfl, ?_⟩; refine (Rect.mem_set_unit (inb := by decide)).mpr ?_; exact Fin.forall_fin_two.mpr ⟨⟨by simp; try omega, by simp; try omega⟩, ⟨by simp; try omega, by simp; try omega⟩⟩
    · refine ⟨_, List.mem_of_getElem? (i := 15) rfl, ?_⟩; refine (Rect.mem_set_unit (inb := by decide)).mpr ?_; exact Fin.forall_fin_two.mpr ⟨⟨by simp; try omega, by simp; try omega⟩, ⟨by simp; try omega, by simp; try omega⟩⟩
    · refine ⟨_, List.mem_of_getElem? (i := 14) rfl, ?_⟩; refine (Rect.mem_set_unit (inb := by decide)).mpr ?_; exact Fin.forall_fin_two.mpr ⟨⟨by simp; try omega, by simp; try omega⟩, ⟨by simp; try omega, by simp; try omega⟩⟩
    · refine ⟨_, List.mem_of_getElem? (i := 13) rfl, ?_⟩; refine (Rect.mem_set_unit (inb := by decide)).mpr ?_; exact Fin.forall_fin_two.mpr ⟨⟨by simp; try omega, by simp; try omega⟩, ⟨by simp; try omega, by simp; try omega⟩⟩
    · refine ⟨_, List.mem_of_getElem? (i := 12) rfl, ?_⟩; refine (Rect.mem_set_unit (inb := by decide)).mpr ?_; exact Fin.forall_fin_two.mpr ⟨⟨by simp; try omega, by simp; try omega⟩, ⟨by simp; try omega, by simp; try omega⟩⟩
    · refine ⟨_, List.mem_of_getElem? (i := 11) rfl, ?_⟩; refine (Rect.mem_set_unit (inb := by decide)).mpr ?_; exact Fin.forall_fin_two.mpr ⟨⟨by simp; try omega, by simp; try omega⟩, ⟨by simp; try omega, by simp; try omega⟩⟩
    · refine ⟨_, List.mem_of_getElem? (i := 10) rfl, ?_⟩; refine (Rect.mem_set_unit (inb := by decide)).mpr ?_; exact Fin.forall_fin_two.mpr ⟨⟨by simp; try omega, by simp; try omega⟩, ⟨by simp; try omega, by simp; try omega⟩⟩
    · refine ⟨_, List.mem_of_getElem? (i := 9) rfl, ?_⟩; refine (Rect.mem_set_unit (inb := by decide)).mpr ?_; exact Fin.forall_fin_two.mpr ⟨⟨by simp; try omega, by simp; try omega⟩, ⟨by simp; try omega, by simp; try omega⟩⟩
    · refine ⟨_, List.mem_of_getElem? (i := 8) rfl, ?_⟩; refine (Rect.mem_set_unit (inb := by decide)).mpr ?_; exact Fin.forall_fin_two.mpr ⟨⟨by simp; try omega, by simp; try omega⟩, ⟨by simp; try omega, by simp; try omega⟩⟩
    · refine ⟨_, List.mem_of_getElem? (i := 7) rfl, ?_⟩; refine (Rect.mem_set_unit (inb := by decide)).mpr ?_; exact Fin.forall_fin_two.mpr ⟨⟨by simp; try omega, by simp; try omega⟩, ⟨by simp; try omega, by simp; try omega⟩⟩
  · rcases (by omega : (y 0).val = 1 ∨ (y 0).val = 2 ∨ (y 0).val = 3 ∨ (y 0).val = 4 ∨ (y 0).val = 5 ∨ (y 0).val = 6
      ∨ (y 0).val = 7) with hb | hb | hb | hb | hb | hb | hb
    · refine ⟨_, List.mem_of_getElem? (i := 6) rfl, ?_⟩; refine (Rect.mem_set_unit (inb := by decide)).mpr ?_; exact Fin.forall_fin_two.mpr ⟨⟨by simp; try omega, by simp; try omega⟩, ⟨by simp; try omega, by simp; try omega⟩⟩
    · refine ⟨_, List.mem_of_getElem? (i := 5) rfl, ?_⟩; refine (Rect.mem_set_unit (inb := by decide)).mpr ?_; exact Fin.forall_fin_two.mpr ⟨⟨by simp; try omega, by simp; try omega⟩, ⟨by simp; try omega, by simp; try omega⟩⟩
    · refine ⟨_, List.mem_of_getElem? (i := 4) rfl, ?_⟩; refine (Rect.mem_set_unit (inb := by decide)).mpr ?_; exact Fin.forall_fin_two.mpr ⟨⟨by simp; try omega, by simp; try omega⟩, ⟨by simp; try omega, by simp; try omega⟩⟩
    · refine ⟨_, List.mem_of_getElem? (i := 3) rfl, ?_⟩; refine (Rect.mem_set_unit (inb := by decide)).mpr ?_; exact Fin.forall_fin_two.mpr ⟨⟨by simp; try omega, by simp; try omega⟩, ⟨by simp; try omega, by simp; try omega⟩⟩
    · refine ⟨_, List.mem_of_getElem? (i := 2) rfl, ?_⟩; refine (Rect.mem_set_unit (inb := by decide)).mpr ?_; exact Fin.forall_fin_two.mpr ⟨⟨by simp; try omega, by simp; try omega⟩, ⟨by simp; try omega, by simp; try omega⟩⟩
    · refine ⟨_, List.mem_of_getElem? (i := 1) rfl, ?_⟩; refine (Rect.mem_set_unit (inb := by decide)).mpr ?_; exact Fin.forall_fin_two.mpr ⟨⟨by simp; try omega, by simp; try omega⟩, ⟨by simp; try omega, by simp; try omega⟩⟩
    · refine ⟨_, List.mem_of_getElem? (i := 0) rfl, ?_⟩; refine (Rect.mem_set_unit (inb := by decide)).mpr ?_; exact Fin.forall_fin_two.mpr ⟨⟨by simp; try omega, by simp; try omega⟩, ⟨by simp; try omega, by simp; try omega⟩⟩

variable (x0 : Vec F S2048x1024 .f32) (x1 : Vec F S1024x8 .f32)

/-! ## What the routing kernel leaves in its four results -/

/-- The row of the sorted buffer that each token's first choice goes to. -/
def slot0 : FVec F S2048 .f32 := k0_pay16 (k0_pay8 x0 x1) (k0_pay10 x0 x1)
/-- The row of the sorted buffer that each token's second choice goes to. -/
def slot1 : FVec F S2048 .f32 := k0_pay17 (k0_pay8 x0 x1) (k0_pay9 x0 x1) (k0_pay10 x0 x1)

/-- The stores into the result of row numbers, last first. -/
def posPieces : List (View.Piece (Elt F) S8x2048 .i32) :=
   [⟨Rect.unit (s := S8x2048) ![7, 0] S1x2048.size (by decide), k0_pay26⟩,
    ⟨Rect.unit (s := S8x2048) ![6, 0] S1x2048.size (by decide), k0_pay25⟩,
    ⟨Rect.unit (s := S8x2048) ![5, 0] S1x2048.size (by decide), k0_pay24⟩,
    ⟨Rect.unit (s := S8x2048) ![4, 0] S1x2048.size (by decide), k0_pay23⟩,
    ⟨Rect.unit (s := S8x2048) ![3, 0] S1x2048.size (by decide), k0_pay22⟩,
    ⟨Rect.unit (s := S8x2048) ![2, 0] S1x2048.size (by decide), k0_pay21⟩,
    ⟨Rect.unit (s := S8x2048) ![1, 0] S1x2048.size (by decide), k0_pay20 (k0_pay19 (k0_pay8 x0 x1) (k0_pay9 x0 x1) (k0_pay10 x0 x1))⟩,
    ⟨Rect.unit (s := S8x2048) ![0, 0] S1x2048.size (by decide), k0_pay18 (k0_pay8 x0 x1) (k0_pay10 x0 x1)⟩]

/-- The stores into the result of sorted weights, last first. -/
def wsrtPieces : List (View.Piece (Elt F) S8x5120 .f32) :=
   sortedPieces     (k0_pay34 (slot0 x0 x1) (slot1 x0 x1) (k0_pay28 (k0_pay4 x0 x1)) (k0_pay29 (k0_pay7 x0 x1)) (k0_pay30 (F := F)))
    (k0_pay40 (k0_pay28 (k0_pay4 x0 x1)) (k0_pay29 (k0_pay7 x0 x1)) (k0_pay36 (slot0 x0 x1)) (k0_pay37 (slot1 x0 x1)) (constant S1x512 .f32 0x00000000#32))
    (k0_pay45 (slot0 x0 x1) (slot1 x0 x1) (k0_pay28 (k0_pay4 x0 x1)) (k0_pay29 (k0_pay7 x0 x1)))
    (k0_pay50 (slot0 x0 x1) (slot1 x0 x1) (k0_pay28 (k0_pay4 x0 x1)) (k0_pay29 (k0_pay7 x0 x1)))
    (k0_pay55 (k0_pay28 (k0_pay4 x0 x1)) (k0_pay29 (k0_pay7 x0 x1)) (k0_pay52 (slot0 x0 x1)) (k0_pay53 (slot1 x0 x1)))
    (k0_pay61 (k0_pay59 (slot0 x0 x1) (slot1 x0 x1) (k0_pay28 (k0_pay4 x0 x1)) (k0_pay29 (k0_pay7 x0 x1))))
    (k0_pay66 (slot0 x0 x1) (slot1 x0 x1) (k0_pay28 (k0_pay4 x0 x1)) (k0_pay29 (k0_pay7 x0 x1)))
    (k0_pay71 (slot1 x0 x1) (k0_pay28 (k0_pay4 x0 x1)) (k0_pay29 (k0_pay7 x0 x1)) (k0_pay67 (F := F)) (k0_pay68 (slot0 x0 x1)))
    (k0_pay78 (k0_pay75 (slot0 x0 x1) (slot1 x0 x1) (k0_pay28 (k0_pay4 x0 x1)) (k0_pay29 (k0_pay7 x0 x1))))
    (k0_pay83 (slot0 x0 x1) (slot1 x0 x1) (k0_pay28 (k0_pay4 x0 x1)) (k0_pay29 (k0_pay7 x0 x1)))
    (k0_pay86)
    (k0_pay88)
    (k0_pay90)
    (k0_pay92)
    (k0_pay94)
    (k0_pay96)
    (k0_pay98)

/-- The stores into the result of source tokens, last first. -/
def tsrcPieces : List (View.Piece (Elt F) S8x5120 .i32) :=
   sortedPieces     (k0_pay33 (slot0 x0 x1) (slot1 x0 x1) (k0_pay27 (F := F)) (k0_pay30 (F := F)))
    (k0_pay39 (k0_pay38 (slot0 x0 x1) (slot1 x0 x1) (k0_pay27 (F := F))))
    (k0_pay44 (slot0 x0 x1) (slot1 x0 x1) (k0_pay27 (F := F)))
    (k0_pay49 (slot0 x0 x1) (slot1 x0 x1) (k0_pay27 (F := F)))
    (k0_pay54 (k0_pay27 (F := F)) (k0_pay52 (slot0 x0 x1)) (k0_pay53 (slot1 x0 x1)))
    (k0_pay60 (slot0 x0 x1) (slot1 x0 x1) (k0_pay27 (F := F)))
    (k0_pay65 (slot0 x0 x1) (slot1 x0 x1) (k0_pay27 (F := F)))
    (k0_pay70 (slot1 x0 x1) (k0_pay27 (F := F)) (k0_pay67 (F := F)) (k0_pay68 (slot0 x0 x1)))
    (k0_pay77 (k0_pay76 (slot0 x0 x1) (slot1 x0 x1) (k0_pay27 (F := F))))
    (k0_pay82 (slot0 x0 x1) (slot1 x0 x1) (k0_pay27 (F := F)))
    (k0_pay85 k0_pay84)
    (k0_pay87)
    (k0_pay89)
    (k0_pay91)
    (k0_pay93 0#32)
    (k0_pay95)
    (k0_pay97)

/-- The stores into the table of experts by tile, last first. -/
def tmapPieces : List (View.Piece (Elt F) S8x128 .i32) :=
   [⟨Rect.unit (s := S8x128) ![7, 0] S1x128.size (by decide), k0_pay1 k0_pay108⟩,
    ⟨Rect.unit (s := S8x128) ![6, 0] S1x128.size (by decide), k0_pay107⟩,
    ⟨Rect.unit (s := S8x128) ![5, 0] S1x128.size (by decide), k0_pay106⟩,
    ⟨Rect.unit (s := S8x128) ![4, 0] S1x128.size (by decide), k0_pay105⟩,
    ⟨Rect.unit (s := S8x128) ![3, 0] S1x128.size (by decide), k0_pay104⟩,
    ⟨Rect.unit (s := S8x128) ![2, 0] S1x128.size (by decide), k0_pay103⟩,
    ⟨Rect.unit (s := S8x128) ![1, 0] S1x128.size (by decide), k0_pay102⟩,
    ⟨Rect.unit (s := S8x128) ![0, 0] S1x128.size (by decide), k0_pay101 (k0_pay13 (k0_pay10 x0 x1)) (k0_pay99 (F := F)) (k0_pay100 (k0_pay13 (k0_pay10 x0 x1)))⟩]

/-- The row numbers as the kernel leaves them. -/
def posOut : Vec F S8x2048 .i32 := View.canon (posPieces x0 x1)
/-- The sorted weights as the kernel leaves them. -/
def wsrtOut : Vec F S8x5120 .f32 := View.canon (wsrtPieces x0 x1)
/-- The source tokens as the kernel leaves them. -/
def tsrcOut : Vec F S8x5120 .i32 := View.canon (tsrcPieces x0 x1)
/-- The table of experts by tile as the kernel leaves it. -/
def tmapOut : Vec F S8x128 .i32 := View.canon (tmapPieces x0 x1)

/-- The stores of row numbers fill the whole result. -/
theorem posPieces_cover (y : S8x2048.Idx) : ∃ p ∈ posPieces x0 x1, y ∈ p.1.set := by
  have h0 : (y 0).val < 8 := (y 0).isLt
  have h1 : (y 1).val < 2048 := (y 1).isLt
  rcases (by omega : (y 0).val = 0 ∨ (y 0).val = 1 ∨ (y 0).val = 2 ∨ (y 0).val = 3 ∨ (y 0).val = 4 ∨ (y 0).val = 5 ∨ (y 0).val = 6 ∨ (y 0).val = 7) with hb | hb | hb | hb | hb | hb | hb | hb
  · refine ⟨_, List.mem_of_getElem? (i := 7) rfl, ?_⟩; refine (Rect.mem_set_unit (inb := by decide)).mpr ?_; exact Fin.forall_fin_two.mpr ⟨⟨by simp; try omega, by simp; try omega⟩, ⟨by simp; try omega, by simp; try omega⟩⟩
  · refine ⟨_, List.mem_of_getElem? (i := 6) rfl, ?_⟩; refine (Rect.mem_set_unit (inb := by decide)).mpr ?_; exact Fin.forall_fin_two.mpr ⟨⟨by simp; try omega, by simp; try omega⟩, ⟨by simp; try omega, by simp; try omega⟩⟩
  · refine ⟨_, List.mem_of_getElem? (i := 5) rfl, ?_⟩; refine (Rect.mem_set_unit (inb := by decide)).mpr ?_; exact Fin.forall_fin_two.mpr ⟨⟨by simp; try omega, by simp; try omega⟩, ⟨by simp; try omega, by simp; try omega⟩⟩
  · refine ⟨_, List.mem_of_getElem? (i := 4) rfl, ?_⟩; refine (Rect.mem_set_unit (inb := by decide)).mpr ?_; exact Fin.forall_fin_two.mpr ⟨⟨by simp; try omega, by simp; try omega⟩, ⟨by simp; try omega, by simp; try omega⟩⟩
  · refine ⟨_, List.mem_of_getElem? (i := 3) rfl, ?_⟩; refine (Rect.mem_set_unit (inb := by decide)).mpr ?_; exact Fin.forall_fin_two.mpr ⟨⟨by simp; try omega, by simp; try omega⟩, ⟨by simp; try omega, by simp; try omega⟩⟩
  · refine ⟨_, List.mem_of_getElem? (i := 2) rfl, ?_⟩; refine (Rect.mem_set_unit (inb := by decide)).mpr ?_; exact Fin.forall_fin_two.mpr ⟨⟨by simp; try omega, by simp; try omega⟩, ⟨by simp; try omega, by simp; try omega⟩⟩
  · refine ⟨_, List.mem_of_getElem? (i := 1) rfl, ?_⟩; refine (Rect.mem_set_unit (inb := by decide)).mpr ?_; exact Fin.forall_fin_two.mpr ⟨⟨by simp; try omega, by simp; try omega⟩, ⟨by simp; try omega, by simp; try omega⟩⟩
  · refine ⟨_, List.mem_of_getElem? (i := 0) rfl, ?_⟩; refine (Rect.mem_set_unit (inb := by decide)).mpr ?_; exact Fin.forall_fin_two.mpr ⟨⟨by simp; try omega, by simp; try omega⟩, ⟨by simp; try omega, by simp; try omega⟩⟩

/-- The stores of sorted weights fill the whole result. -/
theorem wsrtPieces_cover (y : S8x5120.Idx) : ∃ p ∈ wsrtPieces x0 x1, y ∈ p.1.set :=
  sortedPieces_cover _ _ _ _ _ _ _ _ _ _ _ _ _ _ _ _ _ y

/-- The stores of source tokens fill the whole result. -/
theorem tsrcPieces_cover (y : S8x5120.Idx) : ∃ p ∈ tsrcPieces x0 x1, y ∈ p.1.set :=
  sortedPieces_cover _ _ _ _ _ _ _ _ _ _ _ _ _ _ _ _ _ y

/-- The stores of the table fill it. -/
theorem tmapPieces_cover (y : S8x128.Idx) : ∃ p ∈ tmapPieces x0 x1, y ∈ p.1.set := by
  have h0 : (y 0).val < 8 := (y 0).isLt
  have h1 : (y 1).val < 128 := (y 1).isLt
  rcases (by omega : (y 0).val = 0 ∨ (y 0).val = 1 ∨ (y 0).val = 2 ∨ (y 0).val = 3 ∨ (y 0).val = 4 ∨ (y 0).val = 5 ∨ (y 0).val = 6 ∨ (y 0).val = 7) with hb | hb | hb | hb | hb | hb | hb | hb
  · refine ⟨_, List.mem_of_getElem? (i := 7) rfl, ?_⟩; refine (Rect.mem_set_unit (inb := by decide)).mpr ?_; exact Fin.forall_fin_two.mpr ⟨⟨by simp; try omega, by simp; try omega⟩, ⟨by simp; try omega, by simp; try omega⟩⟩
  · refine ⟨_, List.mem_of_getElem? (i := 6) rfl, ?_⟩; refine (Rect.mem_set_unit (inb := by decide)).mpr ?_; exact Fin.forall_fin_two.mpr ⟨⟨by simp; try omega, by simp; try omega⟩, ⟨by simp; try omega, by simp; try omega⟩⟩
  · refine ⟨_, List.mem_of_getElem? (i := 5) rfl, ?_⟩; refine (Rect.mem_set_unit (inb := by decide)).mpr ?_; exact Fin.forall_fin_two.mpr ⟨⟨by simp; try omega, by simp; try omega⟩, ⟨by simp; try omega, by simp; try omega⟩⟩
  · refine ⟨_, List.mem_of_getElem? (i := 4) rfl, ?_⟩; refine (Rect.mem_set_unit (inb := by decide)).mpr ?_; exact Fin.forall_fin_two.mpr ⟨⟨by simp; try omega, by simp; try omega⟩, ⟨by simp; try omega, by simp; try omega⟩⟩
  · refine ⟨_, List.mem_of_getElem? (i := 3) rfl, ?_⟩; refine (Rect.mem_set_unit (inb := by decide)).mpr ?_; exact Fin.forall_fin_two.mpr ⟨⟨by simp; try omega, by simp; try omega⟩, ⟨by simp; try omega, by simp; try omega⟩⟩
  · refine ⟨_, List.mem_of_getElem? (i := 2) rfl, ?_⟩; refine (Rect.mem_set_unit (inb := by decide)).mpr ?_; exact Fin.forall_fin_two.mpr ⟨⟨by simp; try omega, by simp; try omega⟩, ⟨by simp; try omega, by simp; try omega⟩⟩
  · refine ⟨_, List.mem_of_getElem? (i := 1) rfl, ?_⟩; refine (Rect.mem_set_unit (inb := by decide)).mpr ?_; exact Fin.forall_fin_two.mpr ⟨⟨by simp; try omega, by simp; try omega⟩, ⟨by simp; try omega, by simp; try omega⟩⟩
  · refine ⟨_, List.mem_of_getElem? (i := 0) rfl, ?_⟩; refine (Rect.mem_set_unit (inb := by decide)).mpr ?_; exact Fin.forall_fin_two.mpr ⟨⟨by simp; try omega, by simp; try omega⟩, ⟨by simp; try omega, by simp; try omega⟩⟩

end Cert.KernelIdeal.Run

end
-- ==== Proof.KernelIdeal.Router.lean ====
module

public import proofs.«01_k».proof.Proof.Gen.KernelIdeal.Launch
public import proofs.«01_k».proof.Proof.Gen.KernelIdeal.Points
public import proofs.«01_k».proof.Proof.Gen.KernelIdeal.Skeleton
public import proofs.«01_k».proof.Proof.KernelIdeal.RouterOut
public import Idealize.ShloMosaic.Lib.Pipeline.FrameBody
public import Idealize.ShloMosaic.Lib.Writes
public import Idealize.ShloMosaic.Lib.Pipeline.Value
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (x0 : Vec F S2048x1024 .f32) (x1 : Vec F S1024x8 .f32)

set_option maxHeartbeats 4000000 in
/-- The routing kernel's body, on whole buffers: the inputs stay as they were and each result ends at the contents
    named above. -/
theorem router_run (c : Dev nD) (arg0 : Memref sig .tc .vmem S2048x1024 .f32) (harg0 : arg0.IsWhole) (arg1 : Memref sig .tc .vmem S1024x8 .f32) (harg1 : arg1.IsWhole) (arg2 : Memref sig .tc .vmem S8x2048 .i32) (harg2 : arg2.IsWhole) (arg3 : Memref sig .tc .vmem S8x5120 .f32) (harg3 : arg3.IsWhole) (arg4 : Memref sig .tc .vmem S8x5120 .i32) (harg4 : arg4.IsWhole) (arg5 : Memref sig .tc .vmem S8x128 .i32) (harg5 : arg5.IsWhole) :
      ∀ (E : Set ℕ) (K : PUnit → sProp 𝕄),
        iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg0 fullShare x0 ∗ owns (c : Thread nD τ) arg1 fullShare x1 ∗ owns (c : Thread nD τ) arg2 fullShare (posOut x0 x1) ∗ owns (c : Thread nD τ) arg3 fullShare (wsrtOut x0 x1) ∗ owns (c : Thread nD τ) arg4 fullShare (tsrcOut x0 x1) ∗ owns (c : Thread nD τ) arg5 fullShare (tmapOut x0 x1)) -∗ K ⟨⟩))
          ⊢ wp frame (wpE (defs₀ (F := F)) Variants.none c none) E (cc0__router_body arg0 harg0 arg1 harg1 arg2 harg2 arg3 harg3 arg4 harg4 arg5 harg5) K := by
    intro E K
    simp only [cc0__router_body_eq_skeleton]; unfold cc0__router_body_skel
    simp only [k0_part14_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg0.eq_unread hf0; obtain rfl := harg1.eq_unread hf1
    sl_exec
    sl_step
    have e0 : View.readAt (Elt F) arg0.view (Rect.unit ![0, 0] S2048x1024.size inb_S2048x1024_S2048x1024_0_0).toLoadRect (harg0.unread x0) = x0 := by
      rw [View.readAt_eq_ld, hf0]; exact View.ld_unit_zero (by funext a; match a with | 0 => rfl | 1 => rfl) _ _
    have e1 : View.readAt (Elt F) arg1.view (Rect.unit ![0, 0] S1024x8.size inb_S1024x8_S1024x8_0_0).toLoadRect (harg1.unread x1) = x1 := by
      rw [View.readAt_eq_ld, hf1]; exact View.ld_unit_zero (by funext a; match a with | 0 => rfl | 1 => rfl) _ _
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; swap; · iexact H2
      ipureintro
      delta router_run.sl.cst_48 router_run.sl.r_21 router_run.sl.r_20 router_run.sl.r_19 router_run.sl.r_18 router_run.sl.r_17 router_run.sl.r_16 router_run.sl.r_15 router_run.sl.r_14 router_run.sl.r_13 router_run.sl.r_12 router_run.sl.r_11 router_run.sl.r_10 router_run.sl.r_9 router_run.sl.r_8 router_run.sl.r_7 router_run.sl.r_6 router_run.sl.r_5 router_run.sl.r_4 router_run.sl.r_3 router_run.sl.r_2 router_run.sl.r_1 router_run.sl.r
      simp only [e0, e1]
      exact View.read_writes_eq_canon arg2.view f2 (posPieces x0 x1) (posPieces_cover x0 x1)
    isplitl [H3]
    · iexists _; isplitr; swap; · iexact H3
      ipureintro
      delta router_run.sl.cst_48 router_run.sl.r_21 router_run.sl.r_20 router_run.sl.r_19 router_run.sl.r_18 router_run.sl.r_17 router_run.sl.r_16 router_run.sl.r_15 router_run.sl.r_14 router_run.sl.r_13 router_run.sl.r_12 router_run.sl.r_11 router_run.sl.r_10 router_run.sl.r_9 router_run.sl.r_8 router_run.sl.r_7 router_run.sl.r_6 router_run.sl.r_5 router_run.sl.r_4 router_run.sl.r_3 router_run.sl.r_2 router_run.sl.r_1 router_run.sl.r
      simp only [e0, e1]
      exact View.read_writes_eq_canon arg3.view f3 (wsrtPieces x0 x1) (wsrtPieces_cover x0 x1)
    isplitl [H4]
    · iexists _; isplitr; swap; · iexact H4
      ipureintro
      delta router_run.sl.cst_48 router_run.sl.r_21 router_run.sl.r_20 router_run.sl.r_19 router_run.sl.r_18 router_run.sl.r_17 router_run.sl.r_16 router_run.sl.r_15 router_run.sl.r_14 router_run.sl.r_13 router_run.sl.r_12 router_run.sl.r_11 router_run.sl.r_10 router_run.sl.r_9 router_run.sl.r_8 router_run.sl.r_7 router_run.sl.r_6 router_run.sl.r_5 router_run.sl.r_4 router_run.sl.r_3 router_run.sl.r_2 router_run.sl.r_1 router_run.sl.r
      simp only [e0, e1]
      exact View.read_writes_eq_canon arg4.view f4 (tsrcPieces x0 x1) (tsrcPieces_cover x0 x1)
    iexists _; isplitr; swap; · iexact H5
    ipureintro
    delta router_run.sl.cst_48 router_run.sl.r_21 router_run.sl.r_20 router_run.sl.r_19 router_run.sl.r_18 router_run.sl.r_17 router_run.sl.r_16 router_run.sl.r_15 router_run.sl.r_14 router_run.sl.r_13 router_run.sl.r_12 router_run.sl.r_11 router_run.sl.r_10 router_run.sl.r_9 router_run.sl.r_8 router_run.sl.r_7 router_run.sl.r_6 router_run.sl.r_5 router_run.sl.r_4 router_run.sl.r_3 router_run.sl.r_2 router_run.sl.r_1 router_run.sl.r
    simp only [e0, e1]
    exact View.read_writes_eq_canon arg5.view f5 (tmapPieces x0 x1) (tmapPieces_cover x0 x1)

end Cert.KernelIdeal.Run

end
-- ==== Proof.KernelIdeal.Region0.lean ====
module

public import proofs.«01_k».proof.Proof.KernelIdeal.Router

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-! ## The routing call, entered at any contents of the buffers -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The proof data of the routing call: the arrays as found, the inputs' buffers at their blocks, the results' at what
    the body leaves. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => iblk0 W c 1 t
    | ⟨2, _⟩ => posOut (F := F) (iblk0 W c 0 t) (iblk0 W c 1 t)
    | ⟨3, _⟩ => wsrtOut (F := F) (iblk0 W c 0 t) (iblk0 W c 1 t)
    | ⟨4, _⟩ => tsrcOut (F := F) (iblk0 W c 0 t) (iblk0 W c 1 t)
    | ⟨5, _⟩ => tmapOut (F := F) (iblk0 W c 0 t) (iblk0 W c 1 t)
  Φ _ := Pipeline.scopedRest spec0 c
  q _ := fullShare
  owed _ := 0

theorem dat0_A (c : Dev nD) (w : Fin cfg0.W) : (dat0 W c).A w = W c (Proc.devRef .tc (Pipeline.arrRef spec0 w)) := by
  dsimp only [dat0]
theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = posOut (F := F) (iblk0 W c 0 t) (iblk0 W c 1 t) := by dsimp only [dat0]
theorem after0_3 (c : Dev nD) (t : Fin cfg0.N) : (dat0 W c).after 3 t = wsrtOut (F := F) (iblk0 W c 0 t) (iblk0 W c 1 t) := by dsimp only [dat0]
theorem after0_4 (c : Dev nD) (t : Fin cfg0.N) : (dat0 W c).after 4 t = tsrcOut (F := F) (iblk0 W c 0 t) (iblk0 W c 1 t) := by dsimp only [dat0]
theorem after0_5 (c : Dev nD) (t : Fin cfg0.N) : (dat0 W c).after 5 t = tmapOut (F := F) (iblk0 W c 0 t) (iblk0 W c 1 t) := by dsimp only [dat0]
/-- Input window 0's staging buffer holds its block when the body runs. -/
theorem before0_0 (c : Dev nD) (t : Fin cfg0.N) (d) : (dat0 W c).before 0 t d = iblk0 W c 0 t :=
  ((dat0 W c).before_in_eq_fetched 0 rfl (fun _ => rfl) (fun _ _ _ => rfl) (fun t => by rw [after0_0]; unfold Dat.blockOf iblk0; rw [dat0_A]; try rfl) t d).trans
    (by unfold Dat.fetched Dat.blockOf iblk0; rw [dat0_A]; try rfl)
/-- Input window 1's staging buffer holds its block when the body runs. -/
theorem before0_1 (c : Dev nD) (t : Fin cfg0.N) (d) : (dat0 W c).before 1 t d = iblk0 W c 1 t :=
  ((dat0 W c).before_in_eq_fetched 1 rfl (fun _ => rfl) (fun _ _ _ => rfl) (fun t => by rw [after0_1]; unfold Dat.blockOf iblk0; rw [dat0_A]; try rfl) t d).trans
    (by unfold Dat.fetched Dat.blockOf iblk0; rw [dat0_A]; try rfl)

/-- What the body is called with at point `t`, -/
def bodyPre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d))
    ∗ (∃ d, owns (c : Thread nD τ) (st0_4 t) fullShare ((dat0 W c).before 4 t d))
    ∗ (∃ d, owns (c : Thread nD τ) (st0_5 t) fullShare ((dat0 W c).before 5 t d)))
/-- and what it returns. -/
def bodyPost0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t)
    ∗ owns (c : Thread nD τ) (st0_3 t) fullShare ((dat0 W c).after 3 t)
    ∗ owns (c : Thread nD τ) (st0_4 t) fullShare ((dat0 W c).after 4 t)
    ∗ owns (c : Thread nD τ) (st0_5 t) fullShare ((dat0 W c).after 5 t))

/-- The body at any point. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1]
  rw [show (dat0 W c).Φ t.succ = (dat0 W c).Φ t.castSucc from rfl,
    show (dat0 W c).owesAt () t.succ = (dat0 W c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply ((router_run (iblk0 W c 0 t) (iblk0 W c 1 t) c _ _ _ _ _ _ _ _ _ _ _ _) Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at the routing call is its body. -/
theorem defs₀_row0 (t : Fin cfg0.N) :
    defs₀ (F := F) .tc cfg0.body (cfg0.bodyArgs t (cfg0.slots t)) = bodyAt0 t := by
  unfold defs₀; rw [Defs.onTc_tc]

/-- The routing call's body obligation, at every point. -/
theorem body_obligation0 (c : Dev nD) : BodyObligation (dat0 W c) (defs₀ (F := F)) Variants.none () Set.univ := fun t => by
  rw [bigSep_W0, bigSep_W0, defs₀_row0]
  exact triple_restated (sound_body0 W c t) rfl .rfl fun _ => .rfl

end Cert.KernelIdeal.Run

end
-- ==== Proof.KernelIdeal.Gemm.lean ====
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Regions
public import Idealize.ShloMosaic.Lib.Pipeline.FrameBody
public import Idealize.ShloMosaic.Lib.Writes
public import Idealize.ShloMosaic.Lib.Pipeline.Value
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The expert kernel's body, on whole buffers: the inputs stay as they were and the result ends at the weighted product of
    the block of rows with the expert's three matrices. The table is not read. -/
theorem gemm_run (c : Dev nD) (i : grid1.Coords) (arg1 : Memref sig .tc .smem S40 .i32) (harg1 : arg1.IsWhole) (arg2 : Memref sig .tc .vmem S128x1024 .f32) (harg2 : arg2.IsWhole) (arg3 : Memref sig .tc .vmem S1x1024x2048 .f32) (harg3 : arg3.IsWhole) (arg4 : Memref sig .tc .vmem S1x1024x2048 .f32) (harg4 : arg4.IsWhole) (arg5 : Memref sig .tc .vmem S1x2048x1024 .f32) (harg5 : arg5.IsWhole) (arg6 : Memref sig .tc .vmem S1x1x128 .f32) (harg6 : arg6.IsWhole) (arg7 : Memref sig .tc .vmem S128x1024 .f32) (harg7 : arg7.IsWhole)
    (x0 : Vec F S128x1024 .f32) (x1 : Vec F S1x1024x2048 .f32) (x2 : Vec F S1x1024x2048 .f32) (x3 : Vec F S1x2048x1024 .f32) (x4 : Vec F S1x1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay1 x0 x1 x2 x3 x4)) -∗ K ⟨⟩))
          ⊢ wp frame (wpE (defs₀ (F := F)) Variants.none c none) E (cc1__gemm_body i arg1 harg1 arg2 harg2 arg3 harg3 arg4 harg4 arg5 harg5 arg6 harg6 arg7 harg7) K := by
    intro E K
    simp only [cc1__gemm_body_eq_skeleton]; unfold cc1__gemm_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    have e0 : View.readAt (Elt F) arg2.view (Rect.unit ![0, 0] S128x1024.size inb_S128x1024_S128x1024_0_0).toLoadRect (harg2.unread x0) = x0 := by
      rw [View.readAt_eq_ld, hf0]; exact View.ld_unit_zero (by funext a; match a with | 0 => rfl | 1 => rfl) _ _
    have e1 : View.readAt (Elt F) arg3.view (Rect.unit ![0, 0, 0] S1x1024x2048.size inb_S1x1024x2048_S1x1024x2048_0_0_0).toLoadRect (harg3.unread x1) = x1 := by
      rw [View.readAt_eq_ld, hf1]; exact View.ld_unit_zero (by funext a; match a with | 0 => rfl | 1 => rfl | 2 => rfl) _ _
    have e2 : View.readAt (Elt F) arg4.view (Rect.unit ![0, 0, 0] S1x1024x2048.size inb_S1x1024x2048_S1x1024x2048_0_0_0).toLoadRect (harg4.unread x2) = x2 := by
      rw [View.readAt_eq_ld, hf2]; exact View.ld_unit_zero (by funext a; match a with | 0 => rfl | 1 => rfl | 2 => rfl) _ _
    have e3 : View.readAt (Elt F) arg5.view (Rect.unit ![0, 0, 0] S1x2048x1024.size inb_S1x2048x1024_S1x2048x1024_0_0_0).toLoadRect (harg5.unread x3) = x3 := by
      rw [View.readAt_eq_ld, hf3]; exact View.ld_unit_zero (by funext a; match a with | 0 => rfl | 1 => rfl | 2 => rfl) _ _
    have e4 : View.readAt (Elt F) arg6.view (Rect.unit ![0, 0, 0] S1x1x128.size inb_S1x1x128_S1x1x128_0_0_0).toLoadRect (harg6.unread x4) = x4 := by
      rw [View.readAt_eq_ld, hf4]; exact View.ld_unit_zero (by funext a; match a with | 0 => rfl | 1 => rfl | 2 => rfl) _ _
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; swap; · iexact H5
    ipureintro
    simp only [e0, e1, e2, e3, e4]
    refine (View.read_writes_eq_canon arg7.view f5 _ (fun y => ⟨_, List.mem_singleton_self _, ?_⟩)).trans ?_
    · exact View.mem_set_unit_zero (by funext a; match a with | 0 => rfl | 1 => rfl) inb_S128x1024_S128x1024_0_0 y
    · exact View.canon_unit_zero (by funext a; match a with | 0 => rfl | 1 => rfl) _ _

end Cert.KernelIdeal.Run

end
-- ==== Proof.KernelIdeal.Region1.lean ====
module

public import proofs.«01_k».proof.Proof.KernelIdeal.Gemm

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg1 (F := F)).Adm) (W : Dev nD → Valuation τ sig (Elt F))

/-! ## The expert call, entered at any contents of the buffers, at admissible contents of its table -/

/-- Window `w`'s block at point `t`, read off its array as the call finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (W c (Proc.devRef .tc (Pipeline.arrRef spec1 w)))

/-- The proof data of the expert call: the arrays as found, the inputs' buffers at their blocks, the result's at what
    the body leaves; the table is held throughout. -/
def dat1 (c : Dev nD) : Dat τ (Elt F) Unit ℕ (UR sig nD τ) ℕ (cfg1 a) c where
  A w := W c (Proc.devRef .tc (Pipeline.arrRef spec1 w))
  after w t := match w with
    | ⟨0, _⟩ => iblk1 a W c 0 t
    | ⟨1, _⟩ => iblk1 a W c 1 t
    | ⟨2, _⟩ => iblk1 a W c 2 t
    | ⟨3, _⟩ => iblk1 a W c 3 t
    | ⟨4, _⟩ => iblk1 a W c 4 t
    | ⟨5, _⟩ => k1_pay1 (F := F) (iblk1 a W c 0 t) (iblk1 a W c 1 t) (iblk1 a W c 2 t) (iblk1 a W c 3 t) (iblk1 a W c 4 t)
  Φ _ := iprop(Pipeline.scopedRest spec1 c ∗ Pipeline.prefHeld (Ix := Unit) (Name := ℕ) (U := UR sig nD τ) (Lvl := ℕ) pre1 c (fun _ => fullShare) a.1)
  q _ := fullShare
  owed _ := 0

theorem dat1_A (c : Dev nD) (w : Fin (cfg1 a).W) : (dat1 a W c).A w = W c (Proc.devRef .tc (Pipeline.arrRef spec1 w)) := by
  dsimp only [dat1]
theorem after1_0 (c : Dev nD) (t : Fin (cfg1 a).N) : (dat1 a W c).after 0 t = iblk1 a W c 0 t := by dsimp only [dat1]; try rfl
theorem after1_1 (c : Dev nD) (t : Fin (cfg1 a).N) : (dat1 a W c).after 1 t = iblk1 a W c 1 t := by dsimp only [dat1]; try rfl
theorem after1_2 (c : Dev nD) (t : Fin (cfg1 a).N) : (dat1 a W c).after 2 t = iblk1 a W c 2 t := by dsimp only [dat1]; try rfl
theorem after1_3 (c : Dev nD) (t : Fin (cfg1 a).N) : (dat1 a W c).after 3 t = iblk1 a W c 3 t := by dsimp only [dat1]; try rfl
theorem after1_4 (c : Dev nD) (t : Fin (cfg1 a).N) : (dat1 a W c).after 4 t = iblk1 a W c 4 t := by dsimp only [dat1]; try rfl
theorem after1_5 (c : Dev nD) (t : Fin (cfg1 a).N) : (dat1 a W c).after 5 t = k1_pay1 (F := F) (iblk1 a W c 0 t) (iblk1 a W c 1 t) (iblk1 a W c 2 t) (iblk1 a W c 3 t) (iblk1 a W c 4 t) := by dsimp only [dat1]; try rfl
/-- Input window 0's staging buffer holds its block when the body runs. -/
theorem before1_0 (c : Dev nD) (t : Fin (cfg1 a).N) (d) : (dat1 a W c).before 0 t d = iblk1 a W c 0 t :=
  ((dat1 a W c).before_in_eq_fetched 0 rfl (fun _ => rfl) (fun _ _ _ => rfl) (fun t => by rw [after1_0]; unfold Dat.blockOf iblk1; rw [dat1_A]; try rfl) t d).trans
    (by unfold Dat.fetched Dat.blockOf iblk1; rw [dat1_A]; try rfl)
/-- Input window 1's staging buffer holds its block when the body runs. -/
theorem before1_1 (c : Dev nD) (t : Fin (cfg1 a).N) (d) : (dat1 a W c).before 1 t d = iblk1 a W c 1 t :=
  ((dat1 a W c).before_in_eq_fetched 1 rfl (fun _ => rfl) (fun _ _ _ => rfl) (fun t => by rw [after1_1]; unfold Dat.blockOf iblk1; rw [dat1_A]; try rfl) t d).trans
    (by unfold Dat.fetched Dat.blockOf iblk1; rw [dat1_A]; try rfl)
/-- Input window 2's staging buffer holds its block when the body runs. -/
theorem before1_2 (c : Dev nD) (t : Fin (cfg1 a).N) (d) : (dat1 a W c).before 2 t d = iblk1 a W c 2 t :=
  ((dat1 a W c).before_in_eq_fetched 2 rfl (fun _ => rfl) (fun _ _ _ => rfl) (fun t => by rw [after1_2]; unfold Dat.blockOf iblk1; rw [dat1_A]; try rfl) t d).trans
    (by unfold Dat.fetched Dat.blockOf iblk1; rw [dat1_A]; try rfl)
/-- Input window 3's staging buffer holds its block when the body runs. -/
theorem before1_3 (c : Dev nD) (t : Fin (cfg1 a).N) (d) : (dat1 a W c).before 3 t d = iblk1 a W c 3 t :=
  ((dat1 a W c).before_in_eq_fetched 3 rfl (fun _ => rfl) (fun _ _ _ => rfl) (fun t => by rw [after1_3]; unfold Dat.blockOf iblk1; rw [dat1_A]; try rfl) t d).trans
    (by unfold Dat.fetched Dat.blockOf iblk1; rw [dat1_A]; try rfl)
/-- Input window 4's staging buffer holds its block when the body runs. -/
theorem before1_4 (c : Dev nD) (t : Fin (cfg1 a).N) (d) : (dat1 a W c).before 4 t d = iblk1 a W c 4 t :=
  ((dat1 a W c).before_in_eq_fetched 4 rfl (fun _ => rfl) (fun _ _ _ => rfl) (fun t => by rw [after1_4]; unfold Dat.blockOf iblk1; rw [dat1_A]; try rfl) t d).trans
    (by unfold Dat.fetched Dat.blockOf iblk1; rw [dat1_A]; try rfl)

/-- The current staging buffer of each window at point `t`, and that it is whole. -/
abbrev st1_0 (t : Fin (cfg1 a).N) : Memref sig .tc .vmem S128x1024 .f32 := spec1_0.stage ((cfg1 a).slots t 0)
abbrev hs1_0 (t : Fin (cfg1 a).N) : (st1_0 a t).IsWhole := hstage1_0 (((cfg1 a).slots t 0).cast nbuf1_0)
abbrev st1_1 (t : Fin (cfg1 a).N) : Memref sig .tc .vmem S1x1024x2048 .f32 := spec1_1.stage ((cfg1 a).slots t 1)
abbrev hs1_1 (t : Fin (cfg1 a).N) : (st1_1 a t).IsWhole := hstage1_1 (((cfg1 a).slots t 1).cast nbuf1_1)
abbrev st1_2 (t : Fin (cfg1 a).N) : Memref sig .tc .vmem S1x1024x2048 .f32 := spec1_2.stage ((cfg1 a).slots t 2)
abbrev hs1_2 (t : Fin (cfg1 a).N) : (st1_2 a t).IsWhole := hstage1_2 (((cfg1 a).slots t 2).cast nbuf1_2)
abbrev st1_3 (t : Fin (cfg1 a).N) : Memref sig .tc .vmem S1x2048x1024 .f32 := spec1_3.stage ((cfg1 a).slots t 3)
abbrev hs1_3 (t : Fin (cfg1 a).N) : (st1_3 a t).IsWhole := hstage1_3 (((cfg1 a).slots t 3).cast nbuf1_3)
abbrev st1_4 (t : Fin (cfg1 a).N) : Memref sig .tc .vmem S1x1x128 .f32 := spec1_4.stage ((cfg1 a).slots t 4)
abbrev hs1_4 (t : Fin (cfg1 a).N) : (st1_4 a t).IsWhole := hstage1_4 (((cfg1 a).slots t 4).cast nbuf1_4)
abbrev st1_5 (t : Fin (cfg1 a).N) : Memref sig .tc .vmem S128x1024 .f32 := spec1_5.stage ((cfg1 a).slots t 5)
abbrev hs1_5 (t : Fin (cfg1 a).N) : (st1_5 a t).IsWhole := hstage1_5 (((cfg1 a).slots t 5).cast nbuf1_5)

/-- The body as the call runs it at point `t`. -/
abbrev bodyAt1 (t : Fin (cfg1 a).N) : Prog (TpuEff nD τ sig (Elt F) Λ₀ .tc) PUnit :=
  cc1__gemm_body (grid1.coords t) (Memref.whole main_v3) (Memref.isWhole_whole _) (st1_0 a t) (hs1_0 a t) (st1_1 a t) (hs1_1 a t) (st1_2 a t) (hs1_2 a t) (st1_3 a t) (hs1_3 a t) (st1_4 a t) (hs1_4 a t) (st1_5 a t) (hs1_5 a t)

/-- What the body is called with at point `t`, -/
def bodyPre1 (c : Dev nD) (t : Fin (cfg1 a).N) : sProp 𝕄 :=
  iprop((dat1 a W c).Φ t.castSucc ∗ (dat1 a W c).owesAt () t.castSucc
    ∗ (∃ d, owns (c : Thread nD τ) (st1_0 a t) fullShare ((dat1 a W c).before 0 t d))
    ∗ (∃ d, owns (c : Thread nD τ) (st1_1 a t) fullShare ((dat1 a W c).before 1 t d))
    ∗ (∃ d, owns (c : Thread nD τ) (st1_2 a t) fullShare ((dat1 a W c).before 2 t d))
    ∗ (∃ d, owns (c : Thread nD τ) (st1_3 a t) fullShare ((dat1 a W c).before 3 t d))
    ∗ (∃ d, owns (c : Thread nD τ) (st1_4 a t) fullShare ((dat1 a W c).before 4 t d))
    ∗ (∃ d, owns (c : Thread nD τ) (st1_5 a t) fullShare ((dat1 a W c).before 5 t d)))
/-- and what it returns. -/
def bodyPost1 (c : Dev nD) (t : Fin (cfg1 a).N) : sProp 𝕄 :=
  iprop((dat1 a W c).Φ t.succ ∗ (dat1 a W c).owesAt () t.succ
    ∗ owns (c : Thread nD τ) (st1_0 a t) fullShare ((dat1 a W c).after 0 t)
    ∗ owns (c : Thread nD τ) (st1_1 a t) fullShare ((dat1 a W c).after 1 t)
    ∗ owns (c : Thread nD τ) (st1_2 a t) fullShare ((dat1 a W c).after 2 t)
    ∗ owns (c : Thread nD τ) (st1_3 a t) fullShare ((dat1 a W c).after 3 t)
    ∗ owns (c : Thread nD τ) (st1_4 a t) fullShare ((dat1 a W c).after 4 t)
    ∗ owns (c : Thread nD τ) (st1_5 a t) fullShare ((dat1 a W c).after 5 t))

/-- The body at any point. -/
theorem sound_body1 (c : Dev nD) (t : Fin (cfg1 a).N) :
    bodyPre1 a W c t ⊢ wp frame (wpE (defs₀ (F := F)) Variants.none c none) Set.univ (bodyAt1 a t) (fun _ => bodyPost1 a W c t) := by
  unfold bodyPre1 bodyPost1 bodyAt1
  simp only [before1_0, before1_1, before1_2, before1_3, before1_4]
  rw [show (dat1 a W c).Φ t.succ = (dat1 a W c).Φ t.castSucc from rfl,
    show (dat1 a W c).owesAt () t.succ = (dat1 a W c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply ((gemm_run c _ _ _ _ _ _ _ _ _ _ _ _ _ _ _ (iblk1 a W c 0 t) (iblk1 a W c 1 t) (iblk1 a W c 2 t) (iblk1 a W c 3 t) (iblk1 a W c 4 t)) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at the expert call is its body. -/
theorem defs₀_row1 (t : Fin (cfg1 a).N) :
    defs₀ (F := F) .tc (cfg1 a).body ((cfg1 a).bodyArgs t ((cfg1 a).slots t)) = bodyAt1 a t := by
  unfold defs₀; rw [Defs.onTc_tc]

/-- The expert call's body obligation, at every point. -/
theorem body_obligation1 (c : Dev nD) : BodyObligation (dat1 a W c) (defs₀ (F := F)) Variants.none () Set.univ := fun t => by
  rw [bigSep_W1, bigSep_W1, defs₀_row1]
  exact triple_restated (sound_body1 a W c t) rfl .rfl fun _ => .rfl

end Cert.KernelIdeal.Run

end
-- ==== Proof.KernelIdeal.Launch.lean ====
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Regions
public import Idealize.ShloMosaic.Lib.Pipeline.FrameBody
public import Idealize.ShloMosaic.Lib.Writes
public import Idealize.ShloMosaic.Lib.Pipeline.Value
public import Idealize.ShloMosaic.Lib.Tactic
public import Idealize.ShloMosaic.Lib.WordCmp
public import proofs.«01_k».proof.Proof.KernelIdeal.Region0
public import proofs.«01_k».proof.Proof.KernelIdeal.Region1
public import Idealize.ShloMosaic.Lib.Pipeline.RegionArraysTS
public import Idealize.ShloMosaic.Lib.Pipeline.RegionArraysS

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the calls leave -/

/-- Core `c`'s buffers after the routing call. -/
def A1 (c : Dev nD) : Valuation τ sig (Elt F) := Pipeline.afterRegion (dat0 (fun c => V1 m c) c) (V1 m c)

/-- What the routing call leaves in its results, as the generated run names it. -/
def outsA : Outs (F := F) := fun _ r c => A1 m c (Proc.devRef .tc r)

/-- Core `c`'s buffers where the expert call is entered. -/
def B (c : Dev nD) : Valuation τ sig (Elt F) := V4 m (outsA m) c

/-- The expert call's table, as it is then. -/
def tbl : pre1.Contents (Elt F) := fun k => B m 0 (Proc.devRef .tc (pre1.ref k))

/-- Every entry of the table names an expert, and the blocks the call moves lie in their arrays. -/
abbrev TblOk : Prop := ok1 (F := F) (tbl m)

variable (hok : TblOk m)

/-- The calls at admissible tables. -/
def adm : (p : Fin 2) → (pcfgs (F := F) p).Adm
  | ⟨0, _⟩ => cfg0.toPCfg_adm
  | ⟨1, _⟩ => (⟨tbl m, hok⟩ : (pcfg1 (F := F)).Adm)
  | ⟨_ + 2, h⟩ => absurd h (Nat.not_lt.2 (Nat.le_add_left _ _))

/-- The proof data of the two calls. -/
def pdats : (p : Fin 2) → (c : Dev nD) → Dat τ (Elt F) Unit ℕ (UR sig nD τ) ℕ (Pipeline.pin (pcfgs (F := F)) (adm m hok) p) c
  | ⟨0, _⟩ => fun c => dat0 (fun c => V1 m c) c
  | ⟨1, _⟩ => fun c => dat1 ⟨tbl m, hok⟩ (B m) c
  | ⟨_ + 2, h⟩ => absurd h (Nat.not_lt.2 (Nat.le_add_left _ _))

/-- Core `c`'s buffers after the expert call. -/
def A2 (c : Dev nD) : Valuation τ sig (Elt F) := Pipeline.afterRegion (dat1 ⟨tbl m, hok⟩ (B m) c) (B m c)

/-- What both calls leave in their results. -/
def outs : Outs (F := F) := fun k r c => if k = 5 then A2 m hok c (Proc.devRef .tc r) else A1 m c (Proc.devRef .tc r)

theorem outs_2 (r : Ref sig .tc) (c : Dev nD) : outs m hok 2 r c = outsA m 2 r c := by
  unfold outs outsA; exact if_neg (by decide)

theorem outs_5 (r : Ref sig .tc) (c : Dev nD) : outs m hok 5 r c = A2 m hok c (Proc.devRef .tc r) := by
  unfold outs; exact if_pos rfl

theorem V2_outs (c : Dev nD) : V2 m (outs m hok) c = V2 m (outsA m) c := by simp only [V2, outs_2]

theorem V4_outs (c : Dev nD) : V4 m (outs m hok) c = B m c := by
  show StableHlo.after hostOps1_1 (StableHlo.after hostOps1 (V2 m (outs m hok) c)) = StableHlo.after hostOps1_1 (StableHlo.after hostOps1 (V2 m (outsA m) c))
  rw [V2_outs]

/-- A reference of the buffers in hand is one of the TensorCore's. -/
theorem mem_uc {b : DevRef τ sig} (h : b ∈ Pipeline.ucRefs τ sig) : ∃ r : Ref sig .tc, b = Proc.devRef .tc r := by
  obtain ⟨r, -, e⟩ := Finset.mem_map.mp (Finset.mem_filter.mp h).1
  exact ⟨r, e.symm⟩

/-- After the routing call the buffers are as the generated run names them. -/
theorem A1_eq (c : Dev nD) (r : Ref sig .tc) : A1 m c (Proc.devRef .tc r) = V2 m (outsA m) c (Proc.devRef .tc r) := by
  by_cases h3 : r = main_v1_3
  · subst h3; simp only [V2]; rw [Function.update_self]; rfl
  by_cases h2 : r = main_v1_2
  · subst h2; simp only [V2]; rw [Function.update_of_ne (StableHlo.devRef_ne_of_ne (by decide) : (Proc.devRef .tc main_v1_2 : DevRef τ sig) ≠ Proc.devRef .tc main_v1_3), Function.update_self]; rfl
  by_cases h1 : r = main_v1_1
  · subst h1; simp only [V2]; rw [Function.update_of_ne (StableHlo.devRef_ne_of_ne (by decide) : (Proc.devRef .tc main_v1_1 : DevRef τ sig) ≠ Proc.devRef .tc main_v1_3), Function.update_of_ne (StableHlo.devRef_ne_of_ne (by decide) : (Proc.devRef .tc main_v1_1 : DevRef τ sig) ≠ Proc.devRef .tc main_v1_2), Function.update_self]; rfl
  by_cases h0 : r = main_v1_0
  · subst h0; simp only [V2]; rw [Function.update_of_ne (StableHlo.devRef_ne_of_ne (by decide) : (Proc.devRef .tc main_v1_0 : DevRef τ sig) ≠ Proc.devRef .tc main_v1_3), Function.update_of_ne (StableHlo.devRef_ne_of_ne (by decide) : (Proc.devRef .tc main_v1_0 : DevRef τ sig) ≠ Proc.devRef .tc main_v1_2), Function.update_of_ne (StableHlo.devRef_ne_of_ne (by decide) : (Proc.devRef .tc main_v1_0 : DevRef τ sig) ≠ Proc.devRef .tc main_v1_1), Function.update_self]; rfl
  refine (Pipeline.afterRegion_keeps (dat0 (fun c => V1 m c) c) (V1 m c) winFacts0.arr_inj (fun w => dat0_A _ c w) r ?_).trans
    (V2_of m (outsA m) c r (by simp [h0, h1, h2, h3])).symm
  intro w hw
  match w with
  | ⟨0, _⟩ => rfl
  | ⟨1, _⟩ => rfl
  | ⟨2, _⟩ => exact absurd hw.symm h0
  | ⟨3, _⟩ => exact absurd hw.symm h1
  | ⟨4, _⟩ => exact absurd hw.symm h2
  | ⟨5, _⟩ => exact absurd hw.symm h3

/-- After the expert call the buffers are as the generated run names them. -/
theorem A2_eq (c : Dev nD) (r : Ref sig .tc) : A2 m hok c (Proc.devRef .tc r) = V5 m (outs m hok) c (Proc.devRef .tc r) := by
  by_cases h : r = main_v10
  · subst h; simp only [V5]; rw [Function.update_self]; exact (outs_5 m hok main_v10 c).symm
  refine (Pipeline.afterRegion_keeps (dat1 ⟨tbl m, hok⟩ (B m) c) (B m c) winFacts1.arr_inj (fun w => dat1_A _ _ c w) r ?_).trans
    ((V5_of m (outs m hok) c r (by simp [h])).trans (congrFun (V4_outs m hok c) _)).symm
  intro w hw
  match w with
  | ⟨0, _⟩ => rfl
  | ⟨1, _⟩ => rfl
  | ⟨2, _⟩ => rfl
  | ⟨3, _⟩ => rfl
  | ⟨4, _⟩ => rfl
  | ⟨5, _⟩ => exact absurd hw.symm h

/-! ## The calls as segments of the run -/

/-- The TensorCores' cells carry one level, no other cell any. -/
def lvls (g : GSem nD τ sig) : Finset Unit := if g.1.2 = .tc then {()} else ∅

theorem lvls_off (g : GSem nD τ sig) (h : g.1.2 ≠ .tc) : lvls g = ∅ := if_neg h

theorem cut (a : (p : Fin 2) → (pcfgs (F := F) p).Adm) (p : Fin 2) :
    Pipeline.LevelCut (pcfgs (F := F)) a () lvls (fun _ _ => (0 : ℕ)) p (fun _ => 0) (fun _ => 0) where
  hι _ _ _ := Finset.mem_singleton_self _
  hιb _ _ _ := le_refl _
  hD _ _ _ h := absurd h (lt_irrefl 0)

/-- What rides beside the buffers: the core owes nothing. -/
def Rest (_ : Fin 3) (c : Dev nD) : sProp 𝕄 := iprop((∃ Wd, owes (c : Thread nD τ) (0 : CellTallies nD τ sig Unit) Wd) ∗ emp ∗ emp)

/-- The routing call. -/
def R0 : Pipeline.RegionSeg (pcfgs (F := F)) (adm m hok) (pdats m hok) () defs₀ Variants.none lvls (fun _ _ => (0 : ℕ)) 0 :=
  Pipeline.RegionSeg.ofHeldIn (pcfgs (F := F)) (adm m hok) (pdats m hok) () defs₀ Variants.none lvls (fun _ _ => 0) 0 (fun _ => 0)
    (Pipeline.ucRefs τ sig) (fun _ => iprop(emp)) (fun _ => iprop(emp)) launch0 rfl
    (fun c => (body_obligation0 (fun c => V1 m c) c).loose) (fun _ _ => rfl) (fun _ => rfl)
    (fun c => (dat0 (fun c => V1 m c) c).share_full fun _ => rfl)
    (fun c => by
      show iprop(Pipeline.scopedRest spec0 c ∗ emp) ⊢ Pipeline.scopedRest spec0 c
      iintro ⟨H, -⟩; iexact H)
    (fun c => by
      show Pipeline.scopedRest spec0 c ⊢ iprop(Pipeline.scopedRest spec0 c ∗ emp)
      iintro H; isplitl [H]; · iexact H
      iempintro)
    (fun _ => 0) (cut (adm m hok) 0) (fun _ => iprop(emp)) (fun c => V1 m c) (fun c w => dat0_A _ c w)

/-- The expert call. -/
def R1 : Pipeline.RegionSeg (pcfgs (F := F)) (adm m hok) (pdats m hok) () defs₀ Variants.none lvls (fun _ _ => (0 : ℕ)) 1 :=
  Pipeline.RegionSeg.ofHeldInT (pcfgs (F := F)) (adm m hok) (pdats m hok) () defs₀ Variants.none lvls (fun _ _ => 0) 1 (fun _ => 0)
    (Pipeline.ucRefs τ sig) (fun _ => iprop(emp)) (fun _ => iprop(emp)) launch1
    (fun c => (body_obligation1 ⟨tbl m, hok⟩ (B m) c).loose) (fun _ _ => rfl) (fun _ => rfl)
    (fun c => (dat1 ⟨tbl m, hok⟩ (B m) c).share_full fun _ => rfl)
    (fun c => by
      show iprop(iprop(Pipeline.scopedRest spec1 c ∗ emp) ∗ Pipeline.prefHeld (Ix := Unit) (Name := ℕ) (U := UR sig nD τ) (Lvl := ℕ) pre1 c (fun _ => fullShare) (tbl m))
        ⊢ iprop(Pipeline.scopedRest spec1 c ∗ Pipeline.prefHeld (Ix := Unit) (Name := ℕ) (U := UR sig nD τ) (Lvl := ℕ) pre1 c (fun _ => fullShare) (tbl m))
      iintro ⟨⟨H, -⟩, HT⟩; isplitl [H]; · iexact H
      iexact HT)
    (fun c => by
      show iprop(Pipeline.scopedRest spec1 c ∗ Pipeline.prefHeld (Ix := Unit) (Name := ℕ) (U := UR sig nD τ) (Lvl := ℕ) pre1 c (fun _ => fullShare) (tbl m))
        ⊢ iprop(iprop(Pipeline.scopedRest spec1 c ∗ emp) ∗ Pipeline.prefHeld (Ix := Unit) (Name := ℕ) (U := UR sig nD τ) (Lvl := ℕ) pre1 c (fun _ => fullShare) (tbl m))
      iintro ⟨H, HT⟩
      isplitl [H]
      · isplitl [H]; · iexact H
        iempintro
      iexact HT)
    (fun _ => 0) (cut (adm m hok) 1) (fun _ => iprop(emp)) (B m) (fun c w => dat1_A _ _ c w)
    (fun c k => by rw [Subsingleton.elim c 0]; rfl)

theorem arr0_sub : Pipeline.arrRefs (τ := τ) (pcfgs (F := F) 0).spec ⊆ Pipeline.ucRefs τ sig := Pipeline.arrRefs_sub_ucRefs spec0 winFacts0.arr_unscoped

theorem arr1_sub : Pipeline.arrRefs (τ := τ) (pcfgs (F := F) 1).spec ⊆ Pipeline.ucRefs τ sig := Pipeline.arrRefs_sub_ucRefs spec1 winFacts1.arr_unscoped

theorem tbl1_sub : Pipeline.tblRefs (τ := τ) (pcfgs (F := F) 1).pre ⊆ Pipeline.ucRefs τ sig := Pipeline.tblRefs_sub_ucRefs pre1 preFacts1.unscoped

theorem R0_pre (c : Dev nD) : iprop(StableHlo.held (c : Thread nD τ) (Pipeline.ucRefs τ sig) (V1 m c) ∗ Rest 0 c) ⊢ (R0 m hok).pre c := by
  unfold R0
  exact Pipeline.RegionSeg.ofHeldIn_pre (pcs := pcfgs (F := F)) (p := 0) (pdats := pdats m hok) (W := fun c => V1 m c) (D := fun _ => 0) (X := fun _ => iprop(emp)) (Y := fun _ => iprop(emp)) (R := fun _ => iprop(emp)) arr0_sub c

theorem R0_post (c : Dev nD) : (R0 m hok).post c ⊢ iprop(StableHlo.held (c : Thread nD τ) (Pipeline.ucRefs τ sig) (V2 m (outs m hok) c) ∗ Rest 1 c) := by
  have h : (StableHlo.held (c : Thread nD τ) (Pipeline.ucRefs τ sig) (A1 m c) : sProp 𝕄) = StableHlo.held (c : Thread nD τ) (Pipeline.ucRefs τ sig) (V2 m (outsA m) c) :=
    StableHlo.held_congr (c : Thread nD τ) fun b hb => by obtain ⟨r, rfl⟩ := mem_uc hb; exact A1_eq m c r
  rw [V2_outs, ← h]
  unfold R0
  exact Pipeline.RegionSeg.ofHeldIn_post (pcs := pcfgs (F := F)) (p := 0) (pdats := pdats m hok) (W := fun c => V1 m c) (D := fun _ => 0) (X := fun _ => iprop(emp)) (Y := fun _ => iprop(emp)) (R := fun _ => iprop(emp)) arr0_sub c

theorem R1_pre (c : Dev nD) : iprop(StableHlo.held (c : Thread nD τ) (Pipeline.ucRefs τ sig) (V4 m (outs m hok) c) ∗ Rest 1 c) ⊢ (R1 m hok).pre c := by
  rw [V4_outs]
  unfold R1
  exact Pipeline.RegionSeg.ofHeldInT_pre (pcs := pcfgs (F := F)) (p := 1) (pdats := pdats m hok) (W := B m) (D := fun _ => 0) (X := fun _ => iprop(emp)) (Y := fun _ => iprop(emp)) (R := fun _ => iprop(emp)) arr1_sub tbl1_sub c

theorem R1_post (c : Dev nD) : (R1 m hok).post c ⊢ iprop(StableHlo.held (c : Thread nD τ) (Pipeline.ucRefs τ sig) (V5 m (outs m hok) c) ∗ Rest 2 c) := by
  have h : (StableHlo.held (c : Thread nD τ) (Pipeline.ucRefs τ sig) (A2 m hok c) : sProp 𝕄) = StableHlo.held (c : Thread nD τ) (Pipeline.ucRefs τ sig) (V5 m (outs m hok) c) :=
    StableHlo.held_congr (c : Thread nD τ) fun b hb => by obtain ⟨r, rfl⟩ := mem_uc hb; exact A2_eq m hok c r
  rw [← h]
  unfold R1
  exact Pipeline.RegionSeg.ofHeldInT_post (pcs := pcfgs (F := F)) (p := 1) (pdats := pdats m hok) (W := B m) (D := fun _ => 0) (X := fun _ => iprop(emp)) (Y := fun _ => iprop(emp)) (R := fun _ => iprop(emp)) arr1_sub tbl1_sub c

/-! ## The run -/

set_option backward.isDefEq.respectTransparency.types false in
/-- Every execution of the program from memory `m` ends, with the result at `V10`'s, the arguments as launched and every
    counter at zero, if the expert call's table is in range (`hok`). -/
theorem run :
    θ_run defs (onTc (τ := τ) (main (F := F))) ⟨m, fun _ => 0, ρ⟩ (fun r => (∀ c : Dev nD,
      r.2.mem ((c.tc : Thread nD τ).loc main_v18) = V10 m (outs m hok) c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Pipeline.θ_run_regions_kit_dev_sems (pcfgs (F := F)) (adm m hok) (pdats m hok) () (cellOf_inj (adm m hok)) (emb₁ (A := UR sig nD τ)) defs₀ Variants.none
    lvls (fun _ _ => (0 : ℕ)) m ρ main
    (segs m (outs m hok) Variants.none lvls (fun _ _ => 0) Rest () (adm m hok) (pdats m hok) (R0 m hok) (R1 m hok))
    (fun c Q => by
      rewrite [main_chain c, Pipeline.Seg.run_eq_chain,
        show (segs m (outs m hok) Variants.none lvls (fun _ _ => 0) Rest () (adm m hok) (pdats m hok) (R0 m hok) (R1 m hok) c).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      dsimp (config := { failIfUnchanged := false }) only
      exact .rfl)
    (fun c => by simp only [segs, Pipeline.Seg.pipes_host, Pipeline.Seg.pipes_region, Pipeline.Seg.pipes_nil]; decide) (fun _ => 0) lvls_off (fun _ => iprop(emp))
    (initOf (Pipeline.cells (Pipeline.pin (pcfgs (F := F)) (adm m hok)) (cellOf_inj (adm m hok))) (Pipeline.launchToks (Pipeline.pin (pcfgs (F := F)) (adm m hok)) (cellOf_inj (adm m hok)))) ?_
    (T₀ := fun c => iprop(StableHlo.held (c : Thread nD τ) (Pipeline.ucRefs τ sig) (V0 m c) ∗ Rest 0 c))
    (Tₙ := fun c => StableHlo.held (c : Thread nD τ) (Pipeline.ucRefs τ sig) (V10 m (outs m hok) c))
    (hch := fun c => ⟨.rfl, R0_pre m hok c, R0_post m hok c, .rfl, R1_pre m hok c, R1_post m hok c, .rfl, .rfl, .rfl, .rfl, sep_mono .rfl (by
      unfold Rest; iintro ⟨H, -⟩; iexact H)⟩)
    (hinit := ?_) (QY := fun c s => s.mem ((c.tc : Thread nD τ).loc main_v18) = V10 m (outs m hok) c main_v18 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own ((emb₁ (A := UR sig nD τ)) (initOf (Pipeline.cells (Pipeline.pin (pcfgs (F := F)) (adm m hok)) (cellOf_inj (adm m hok))) (Pipeline.launchToks (Pipeline.pin (pcfgs (F := F)) (adm m hok)) (cellOf_inj (adm m hok))))) from .rfl)
      iexact Hu
    · iapply (show (BI.emp : sProp 𝕄) ⊢ bigSep Finset.univ (fun _ : Dev nD => (BI.emp : sProp 𝕄)) from by rw [BI.bigSep_emp_const])
      iempintro
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (V0 m c) ∗ Rest 0 c)
            : sProp 𝕄) := by
      refine bigSep_mono fun c _ => ?_
      show (iprop(unscopedBufs c (fun b => m ((c.tc : Thread nD τ).loc b)) ∗ unscopedSems0 c ∗ owes (c.tc : Thread nD τ) (0 : CellTallies nD τ sig Unit) ∅ ∗ Pipeline.launchCred (fun _ => 0) c ∗ prngReg c (ρ c) ∗ emp) : sProp 𝕄) ⊢ iprop(StableHlo.held (c : Thread nD τ) (Pipeline.ucRefs τ sig) (V0 m c) ∗ Rest 0 c)
      rw [← Pipeline.unscopedBufs_held (Ix := Unit) (Name := ℕ) (U := UR sig nD τ) (Lvl := ℕ) c (V0 m c)]
      unfold Rest
      iintro ⟨Hb, -, HO, -, -, -⟩
      isplitl [Hb]; · iexact Hb
      isplitl [HO]; · iexists _; iexact HO
      isplitl <;> iempintro
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (V10 m (outs m hok) c) s') $$ [Hh HSI]
    · isplitl [Hh] <;> iassumption
    icases Hr with ⟨%h, HSI⟩
    imodintro
    isplitr
    · ipureintro
      exact ⟨h (Proc.devRef .tc main_v18) (Finset.mem_filter.mpr ⟨StableHlo.devRef_mem_tcRefs main_v18, by decide⟩),
        (h (Proc.devRef .tc main_arg0) (Finset.mem_filter.mpr ⟨StableHlo.devRef_mem_tcRefs main_arg0, by decide⟩)).trans (V10_main_arg0 m (outs m hok) c),
        (h (Proc.devRef .tc main_arg1) (Finset.mem_filter.mpr ⟨StableHlo.devRef_mem_tcRefs main_arg1, by decide⟩)).trans (V10_main_arg1 m (outs m hok) c),
        (h (Proc.devRef .tc main_arg2) (Finset.mem_filter.mpr ⟨StableHlo.devRef_mem_tcRefs main_arg2, by decide⟩)).trans (V10_main_arg2 m (outs m hok) c),
        (h (Proc.devRef .tc main_arg3) (Finset.mem_filter.mpr ⟨StableHlo.devRef_mem_tcRefs main_arg3, by decide⟩)).trans (V10_main_arg3 m (outs m hok) c),
        (h (Proc.devRef .tc main_arg4) (Finset.mem_filter.mpr ⟨StableHlo.devRef_mem_tcRefs main_arg4, by decide⟩)).trans (V10_main_arg4 m (outs m hok) c)⟩
    · iexact HSI

end Cert.KernelIdeal.Run

end
-- ==== Proof.KernelIdeal.Arrays.lean ====
module

public import proofs.«01_k».proof.Proof.KernelIdeal.Launch
public import Idealize.ShloMosaic.Lib.ValueIdx

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-! ## The routing call has one point, whose blocks are its whole arrays -/

/-- Window 0's block is its whole array. -/
theorem blk0_0_emb (t : Fin cfg0.N) (y : ((cfg0.win 0).xblock (cfg0.grid.coords t)).Idx) : ((cfg0.win 0).blk t).view.emb y = y := by
  funext a; apply Fin.ext
  match a with
  | 0 => exact Pipeline.Window.rect_emb_val_of_index_zero (cfg0.win 0) t 0 rfl y
  | 1 => exact Pipeline.Window.rect_emb_val_of_index_zero (cfg0.win 0) t 1 rfl y
/-- Window 1's block is its whole array. -/
theorem blk0_1_emb (t : Fin cfg0.N) (y : ((cfg0.win 1).xblock (cfg0.grid.coords t)).Idx) : ((cfg0.win 1).blk t).view.emb y = y := by
  funext a; apply Fin.ext
  match a with
  | 0 => exact Pipeline.Window.rect_emb_val_of_index_zero (cfg0.win 1) t 0 rfl y
  | 1 => exact Pipeline.Window.rect_emb_val_of_index_zero (cfg0.win 1) t 1 rfl y
/-- Window 2's block is its whole array. -/
theorem blk0_2_emb (t : Fin cfg0.N) (y : ((cfg0.win 2).xblock (cfg0.grid.coords t)).Idx) : ((cfg0.win 2).blk t).view.emb y = y := by
  funext a; apply Fin.ext
  match a with
  | 0 => exact Pipeline.Window.rect_emb_val_of_index_zero (cfg0.win 2) t 0 rfl y
  | 1 => exact Pipeline.Window.rect_emb_val_of_index_zero (cfg0.win 2) t 1 rfl y
/-- Window 3's block is its whole array. -/
theorem blk0_3_emb (t : Fin cfg0.N) (y : ((cfg0.win 3).xblock (cfg0.grid.coords t)).Idx) : ((cfg0.win 3).blk t).view.emb y = y := by
  funext a; apply Fin.ext
  match a with
  | 0 => exact Pipeline.Window.rect_emb_val_of_index_zero (cfg0.win 3) t 0 rfl y
  | 1 => exact Pipeline.Window.rect_emb_val_of_index_zero (cfg0.win 3) t 1 rfl y
/-- Window 4's block is its whole array. -/
theorem blk0_4_emb (t : Fin cfg0.N) (y : ((cfg0.win 4).xblock (cfg0.grid.coords t)).Idx) : ((cfg0.win 4).blk t).view.emb y = y := by
  funext a; apply Fin.ext
  match a with
  | 0 => exact Pipeline.Window.rect_emb_val_of_index_zero (cfg0.win 4) t 0 rfl y
  | 1 => exact Pipeline.Window.rect_emb_val_of_index_zero (cfg0.win 4) t 1 rfl y
/-- Window 5's block is its whole array. -/
theorem blk0_5_emb (t : Fin cfg0.N) (y : ((cfg0.win 5).xblock (cfg0.grid.coords t)).Idx) : ((cfg0.win 5).blk t).view.emb y = y := by
  funext a; apply Fin.ext
  match a with
  | 0 => exact Pipeline.Window.rect_emb_val_of_index_zero (cfg0.win 5) t 0 rfl y
  | 1 => exact Pipeline.Window.rect_emb_val_of_index_zero (cfg0.win 5) t 1 rfl y
/-- The block of input 0 is the array. -/
theorem iblk0_0 (c : Dev nD) (t : Fin cfg0.N) : (iblk0 W c 0 t : S2048x1024.Idx → Elt F .f32) = W c (Proc.devRef .tc main_v0) := by
  funext y
  unfold iblk0
  rw [View.read_apply, blk0_0_emb]
  rfl
/-- The block of input 1 is the array. -/
theorem iblk0_1 (c : Dev nD) (t : Fin cfg0.N) : (iblk0 W c 1 t : S1024x8.Idx → Elt F .f32) = W c (Proc.devRef .tc main_arg1) := by
  funext y
  unfold iblk0
  rw [View.read_apply, blk0_1_emb]
  rfl

/-! ## What the routing call leaves in its results -/

variable (m : (ℓ : Loc nD τ sig) → Buf (Elt F) ℓ)

/-- The tokens, one a row, as the routing call is handed them. -/
def tok (c : Dev nD) : S2048x1024.Idx → Elt F .f32 := V1 m c (Proc.devRef .tc main_v0)

/-- The router's weights. -/
def wgt (c : Dev nD) : S1024x8.Idx → Elt F .f32 := m ((c : Thread nD τ).loc main_arg1)

theorem arrAt0_2 (c : Dev nD) : ((dat0 W c).arrAt 2 cfg0.N : S8x2048.Idx → Elt F .i32)
    = posOut (F := F) (W c (Proc.devRef .tc main_v0)) (W c (Proc.devRef .tc main_arg1)) := by
  have e : ∀ t, (dat0 W c).after 2 t = posOut (F := F) (W c (Proc.devRef .tc main_v0)) (W c (Proc.devRef .tc main_arg1)) := fun t => by
    rw [after0_2, iblk0_0, iblk0_1]
  generalize posOut (F := F) (W c (Proc.devRef .tc main_v0)) (W c (Proc.devRef .tc main_arg1)) = G at e ⊢
  refine (dat0 W c).arrAt_eq_of_cover 2 G (fun t _ => ?_) (fun i => ⟨t0_0, flush0_2 t0_0, ?_⟩)
  · unfold Dat.flushed
    rw [e t]
    funext y
    rw [View.read_apply, blk0_2_emb]
    rfl
  · have h := ((cfg0.win 2).blk t0_0).view.emb_mem_set i
    rw [blk0_2_emb] at h
    exact h

theorem A1_2 (c : Dev nD) : (A1 m c (Proc.devRef .tc main_v1_0) : S8x2048.Idx → Elt F .i32) = posOut (F := F) (tok m c) (wgt m c) := by
  refine (Pipeline.afterRegion_arr (dat0 (fun c => V1 m c) c) (V1 m c) winFacts0.arr_inj 2).trans ?_
  rw [show wgt m c = V1 m c (Proc.devRef .tc main_arg1) from (V1_of m c main_arg1 (by decide)).symm]
  exact arrAt0_2 _ c

theorem arrAt0_3 (c : Dev nD) : ((dat0 W c).arrAt 3 cfg0.N : S8x5120.Idx → Elt F .f32)
    = wsrtOut (F := F) (W c (Proc.devRef .tc main_v0)) (W c (Proc.devRef .tc main_arg1)) := by
  have e : ∀ t, (dat0 W c).after 3 t = wsrtOut (F := F) (W c (Proc.devRef .tc main_v0)) (W c (Proc.devRef .tc main_arg1)) := fun t => by
    rw [after0_3, iblk0_0, iblk0_1]
  generalize wsrtOut (F := F) (W c (Proc.devRef .tc main_v0)) (W c (Proc.devRef .tc main_arg1)) = G at e ⊢
  refine (dat0 W c).arrAt_eq_of_cover 3 G (fun t _ => ?_) (fun i => ⟨t0_0, flush0_3 t0_0, ?_⟩)
  · unfold Dat.flushed
    rw [e t]
    funext y
    rw [View.read_apply, blk0_3_emb]
    rfl
  · have h := ((cfg0.win 3).blk t0_0).view.emb_mem_set i
    rw [blk0_3_emb] at h
    exact h

theorem A1_3 (c : Dev nD) : (A1 m c (Proc.devRef .tc main_v1_1) : S8x5120.Idx → Elt F .f32) = wsrtOut (F := F) (tok m c) (wgt m c) := by
  refine (Pipeline.afterRegion_arr (dat0 (fun c => V1 m c) c) (V1 m c) winFacts0.arr_inj 3).trans ?_
  rw [show wgt m c = V1 m c (Proc.devRef .tc main_arg1) from (V1_of m c main_arg1 (by decide)).symm]
  exact arrAt0_3 _ c

theorem arrAt0_4 (c : Dev nD) : ((dat0 W c).arrAt 4 cfg0.N : S8x5120.Idx → Elt F .i32)
    = tsrcOut (F := F) (W c (Proc.devRef .tc main_v0)) (W c (Proc.devRef .tc main_arg1)) := by
  have e : ∀ t, (dat0 W c).after 4 t = tsrcOut (F := F) (W c (Proc.devRef .tc main_v0)) (W c (Proc.devRef .tc main_arg1)) := fun t => by
    rw [after0_4, iblk0_0, iblk0_1]
  generalize tsrcOut (F := F) (W c (Proc.devRef .tc main_v0)) (W c (Proc.devRef .tc main_arg1)) = G at e ⊢
  refine (dat0 W c).arrAt_eq_of_cover 4 G (fun t _ => ?_) (fun i => ⟨t0_0, flush0_4 t0_0, ?_⟩)
  · unfold Dat.flushed
    rw [e t]
    funext y
    rw [View.read_apply, blk0_4_emb]
    rfl
  · have h := ((cfg0.win 4).blk t0_0).view.emb_mem_set i
    rw [blk0_4_emb] at h
    exact h

theorem A1_4 (c : Dev nD) : (A1 m c (Proc.devRef .tc main_v1_2) : S8x5120.Idx → Elt F .i32) = tsrcOut (F := F) (tok m c) (wgt m c) := by
  refine (Pipeline.afterRegion_arr (dat0 (fun c => V1 m c) c) (V1 m c) winFacts0.arr_inj 4).trans ?_
  rw [show wgt m c = V1 m c (Proc.devRef .tc main_arg1) from (V1_of m c main_arg1 (by decide)).symm]
  exact arrAt0_4 _ c

theorem arrAt0_5 (c : Dev nD) : ((dat0 W c).arrAt 5 cfg0.N : S8x128.Idx → Elt F .i32)
    = tmapOut (F := F) (W c (Proc.devRef .tc main_v0)) (W c (Proc.devRef .tc main_arg1)) := by
  have e : ∀ t, (dat0 W c).after 5 t = tmapOut (F := F) (W c (Proc.devRef .tc main_v0)) (W c (Proc.devRef .tc main_arg1)) := fun t => by
    rw [after0_5, iblk0_0, iblk0_1]
  generalize tmapOut (F := F) (W c (Proc.devRef .tc main_v0)) (W c (Proc.devRef .tc main_arg1)) = G at e ⊢
  refine (dat0 W c).arrAt_eq_of_cover 5 G (fun t _ => ?_) (fun i => ⟨t0_0, flush0_5 t0_0, ?_⟩)
  · unfold Dat.flushed
    rw [e t]
    funext y
    rw [View.read_apply, blk0_5_emb]
    rfl
  · have h := ((cfg0.win 5).blk t0_0).view.emb_mem_set i
    rw [blk0_5_emb] at h
    exact h

theorem A1_5 (c : Dev nD) : (A1 m c (Proc.devRef .tc main_v1_3) : S8x128.Idx → Elt F .i32) = tmapOut (F := F) (tok m c) (wgt m c) := by
  refine (Pipeline.afterRegion_arr (dat0 (fun c => V1 m c) c) (V1 m c) winFacts0.arr_inj 5).trans ?_
  rw [show wgt m c = V1 m c (Proc.devRef .tc main_arg1) from (V1_of m c main_arg1 (by decide)).symm]
  exact arrAt0_5 _ c

end Cert.KernelIdeal.Run

end
-- ==== Proof.KernelIdeal.Host.lean ====
module

public import proofs.«01_k».proof.Proof.KernelIdeal.Arrays
public import Idealize.ShloMosaic.Lib.StableHlo.Run

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The operations between the calls, by their functions -/

/-- The row numbers `jnp.take` reads of the tokens: a negative one counts from the end. -/
def takeXIdx (i : S5120.Idx → BitVec 32) : S5120.Idx → BitVec 32 :=
  select (cmpi .slt i (broadcastInDim S5120 ![] bcast_S_S5120 (constantI S_ 32 0#32)))
    (addi i (broadcastInDim S5120 ![] bcast_S_S5120 (constantI S_ 32 2048#32))) i

/-- Which of them lie in the table. -/
def takeXMask (j : S5120x1.Idx → BitVec 32) : S5120.Idx → BitVec 1 :=
  Host.reduce IntOp.andi
    (andi (cmpi .sge j (broadcastInDim S5120x1 ![] bcast_S_S5120x1 (constantI S_ 32 0#32)))
      (cmpi .sle j (broadcastInDim S5120x1 ![0, 1] bcast_S1x1_S5120x1_0_1 (broadcastInDim S1x1 ![1] bcast_S1_S1x1_1 (constantI S1 32 2047#32)))))
    (constantI S_ 1 1#1) reducesTo_S5120x1_S5120_d1 h_S_

/-- `jnp.take` of the tokens: the named rows, not-a-number where a row is named that is not there. -/
def takeX (x : S2048x1024.Idx → Elt F .f32) (i : S5120.Idx → BitVec 32) : S5120x1024.Idx → Elt F .f32 :=
  select (broadcastInDim S5120x1024 ![0] bcast_S5120_S5120x1024_0 (takeXMask (broadcastInDim S5120x1 ![0] bcast_S5120_S5120x1_0 (takeXIdx i))))
    (Host.gather gather_S2048x1024_S5120x1_S5120x1024_1_0_n_n_0_1_11024 x (broadcastInDim S5120x1 ![0] bcast_S5120_S5120x1_0 (takeXIdx i)))
    (broadcastInDim S5120x1024 ![] bcast_S_S5120x1024 (constant S_ .f32 0x7FC00000#32))

/-- The row numbers `jnp.take` reads of the expert call's rows: a negative one counts from the end. -/
def takeYIdx (i : S2048.Idx → BitVec 32) : S2048.Idx → BitVec 32 :=
  select (cmpi .slt i (broadcastInDim S2048 ![] bcast_S_S2048 (constantI S_ 32 0#32)))
    (addi i (broadcastInDim S2048 ![] bcast_S_S2048 (constantI S_ 32 5120#32))) i

/-- Which of them lie in the table. -/
def takeYMask (j : S2048x1.Idx → BitVec 32) : S2048.Idx → BitVec 1 :=
  Host.reduce IntOp.andi
    (andi (cmpi .sge j (broadcastInDim S2048x1 ![] bcast_S_S2048x1 (constantI S_ 32 0#32)))
      (cmpi .sle j (broadcastInDim S2048x1 ![0, 1] bcast_S1x1_S2048x1_0_1 (broadcastInDim S1x1 ![1] bcast_S1_S1x1_1 (constantI S1 32 5119#32)))))
    (constantI S_ 1 1#1) reducesTo_S2048x1_S2048_d1 h_S_

/-- `jnp.take` of the expert call's rows: the named rows, not-a-number where a row is named that is not there. -/
def takeY (x : S5120x1024.Idx → Elt F .f32) (i : S2048.Idx → BitVec 32) : S2048x1024.Idx → Elt F .f32 :=
  select (broadcastInDim S2048x1024 ![0] bcast_S2048_S2048x1024_0 (takeYMask (broadcastInDim S2048x1 ![0] bcast_S2048_S2048x1_0 (takeYIdx i))))
    (Host.gather gather_S5120x1024_S2048x1_S2048x1024_1_0_n_n_0_1_11024 x (broadcastInDim S2048x1 ![0] bcast_S2048_S2048x1_0 (takeYIdx i)))
    (broadcastInDim S2048x1024 ![] bcast_S_S2048x1024 (constant S_ .f32 0x7FC00000#32))

/-- The expert table is the first forty words of the routing call's map. -/
def tblOf (z : S8x128.Idx → BitVec 32) : S40.Idx → BitVec 32 :=
  shapeCast S40 (extractStridedSlice S1x40 ![0, 0] z slices_S8x128_S1x40_0_0) shapeCasts_S1x40_S40

/-- The row list is the first row of the routing call's. -/
def rowsOf (z : S8x5120.Idx → BitVec 32) : S5120.Idx → BitVec 32 :=
  shapeCast S5120 (extractStridedSlice S1x5120 ![0, 0] z slices_S8x5120_S1x5120_0_0) shapeCasts_S1x5120_S5120

/-- The weights are the first row of the routing call's, by tiles. -/
def wtsOf (z : S8x5120.Idx → Elt F .f32) : S40x1x128.Idx → Elt F .f32 :=
  shapeCast S40x1x128 (shapeCast S5120 (extractStridedSlice S1x5120 ![0, 0] z slices_S8x5120_S1x5120_0_0) shapeCasts_S1x5120_S5120) shapeCasts_S5120_S40x1x128

/-- The places of the tokens' first copies. -/
def posOf0 (z : S8x2048.Idx → BitVec 32) : S2048.Idx → BitVec 32 :=
  shapeCast S2048 (extractStridedSlice S1x2048 ![0, 0] z slices_S8x2048_S1x2048_0_0) shapeCasts_S1x2048_S2048

/-- The places of the tokens' second copies. -/
def posOf1 (z : S8x2048.Idx → BitVec 32) : S2048.Idx → BitVec 32 :=
  shapeCast S2048 (extractStridedSlice S1x2048 ![1, 0] z slices_S8x2048_S1x2048_1_0) shapeCasts_S1x2048_S2048

variable (V : Valuation τ sig (Elt F))

theorem h0_v0 : StableHlo.after hostOps0 V (Proc.devRef .tc main_v0) = shapeCast S2048x1024 (V (Proc.devRef .tc main_arg0) : S1x2048x1024.Idx → Elt F .f32) shapeCasts_S1x2048x1024_S2048x1024 := by
  after_results
  rfl
theorem h1_v3 : StableHlo.after hostOps1 V (Proc.devRef .tc main_v3) = tblOf (V (Proc.devRef .tc main_v1_3)) := by
  after_results
  rfl
theorem h1_v5 : StableHlo.after hostOps1 V (Proc.devRef .tc main_v5) = rowsOf (V (Proc.devRef .tc main_v1_2)) := by
  after_results
  rfl
theorem h1_v8 : StableHlo.after hostOps1 V (Proc.devRef .tc main_v8) = wtsOf (V (Proc.devRef .tc main_v1_1)) := by
  after_results
  rfl
theorem h11_v9 : StableHlo.after hostOps1_1 V (Proc.devRef .tc main_v9) = takeX (V (Proc.devRef .tc main_v0)) (V (Proc.devRef .tc main_v5)) := by
  after_results
  simp -implicitDefEqProofs only [StableHlo.TRef.toBuf, StableHlo.TRef.ofBuf, cast_cast, cast_eq]
  rfl
theorem h2_v12 : StableHlo.after hostOps2 V (Proc.devRef .tc main_v12) = posOf0 (V (Proc.devRef .tc main_v1_0)) := by
  after_results
  rfl
theorem h21_v13 : StableHlo.after hostOps2_1 V (Proc.devRef .tc main_v13) = takeY (V (Proc.devRef .tc main_v10)) (V (Proc.devRef .tc main_v12)) := by
  after_results
  simp -implicitDefEqProofs only [StableHlo.TRef.toBuf, StableHlo.TRef.ofBuf, cast_cast, cast_eq]
  rfl
theorem h22_v15 : StableHlo.after hostOps2_2 V (Proc.devRef .tc main_v15) = posOf1 (V (Proc.devRef .tc main_v1_0)) := by
  after_results
  rfl
theorem h23_v16 : StableHlo.after hostOps2_3 V (Proc.devRef .tc main_v16) = takeY (V (Proc.devRef .tc main_v10)) (V (Proc.devRef .tc main_v15)) := by
  after_results
  simp -implicitDefEqProofs only [StableHlo.TRef.toBuf, StableHlo.TRef.ofBuf, cast_cast, cast_eq]
  rfl
theorem h24_v18 : StableHlo.after hostOps2_4 V (Proc.devRef .tc main_v18) = shapeCast S1x2048x1024 (addf (F := F) (V (Proc.devRef .tc main_v13) : S2048x1024.Idx → Elt F .f32) (V (Proc.devRef .tc main_v16))) shapeCasts_S2048x1024_S1x2048x1024 := by
  after_results
  rfl

variable (m : (ℓ : Loc nD τ sig) → Buf (Elt F) ℓ)

/-! ## What the expert call finds -/

theorem tok_eq (c : Dev nD) : tok m c = shapeCast S2048x1024 (m ((c : Thread nD τ).loc main_arg0) : S1x2048x1024.Idx → Elt F .f32) shapeCasts_S1x2048x1024_S2048x1024 :=
  h0_v0 (V0 m c)

theorem V2_eq (c : Dev nD) (r : Ref sig .tc) : V2 m (outsA m) c (Proc.devRef .tc r) = A1 m c (Proc.devRef .tc r) := (A1_eq m c r).symm

theorem B_v3 (c : Dev nD) : B m c (Proc.devRef .tc main_v3) = tblOf (tmapOut (F := F) (tok m c) (wgt m c)) := by
  refine (V4_of m (outsA m) c main_v3 (by decide)).trans ((h1_v3 _).trans ?_)
  rw [V2_eq, A1_5]

theorem B_v8 (c : Dev nD) : B m c (Proc.devRef .tc main_v8) = wtsOf (wsrtOut (F := F) (tok m c) (wgt m c)) := by
  refine (V4_of m (outsA m) c main_v8 (by decide)).trans ((h1_v8 _).trans ?_)
  rw [V2_eq, A1_3]

theorem B_v9 (c : Dev nD) : B m c (Proc.devRef .tc main_v9) = takeX (tok m c) (rowsOf (tsrcOut (F := F) (tok m c) (wgt m c))) := by
  refine (h11_v9 _).trans ?_
  rw [show V3 m (outsA m) c (Proc.devRef .tc main_v5) = _ from h1_v5 _, V2_eq, A1_4,
    show V3 m (outsA m) c (Proc.devRef .tc main_v0) = tok m c from (V3_of m (outsA m) c main_v0 (by decide)).trans (V2_of m (outsA m) c main_v0 (by decide))]

theorem B_arg2 (c : Dev nD) : B m c (Proc.devRef .tc main_arg2) = m ((c : Thread nD τ).loc main_arg2) :=
  (V4_of m (outsA m) c main_arg2 (by decide)).trans <| (V3_of m (outsA m) c main_arg2 (by decide)).trans <|
    (V2_of m (outsA m) c main_arg2 (by decide)).trans (V1_of m c main_arg2 (by decide))

theorem B_arg3 (c : Dev nD) : B m c (Proc.devRef .tc main_arg3) = m ((c : Thread nD τ).loc main_arg3) :=
  (V4_of m (outsA m) c main_arg3 (by decide)).trans <| (V3_of m (outsA m) c main_arg3 (by decide)).trans <|
    (V2_of m (outsA m) c main_arg3 (by decide)).trans (V1_of m c main_arg3 (by decide))

theorem B_arg4 (c : Dev nD) : B m c (Proc.devRef .tc main_arg4) = m ((c : Thread nD τ).loc main_arg4) :=
  (V4_of m (outsA m) c main_arg4 (by decide)).trans <| (V3_of m (outsA m) c main_arg4 (by decide)).trans <|
    (V2_of m (outsA m) c main_arg4 (by decide)).trans (V1_of m c main_arg4 (by decide))

/-- The table of the expert call. -/
theorem tbl_eq : tbl m 0 = tblOf (tmapOut (F := F) (tok m 0) (wgt m 0)) := B_v3 m 0

/-! ## What the program leaves in its result -/

variable (hok : TblOk m)

theorem V5_v1_0 (c : Dev nD) : V5 m (outs m hok) c (Proc.devRef .tc main_v1_0) = posOut (F := F) (tok m c) (wgt m c) := by
  refine (V5_of m (outs m hok) c main_v1_0 (by decide)).trans ?_
  refine (V4_of m (outs m hok) c main_v1_0 (by decide)).trans <| (V3_of m (outs m hok) c main_v1_0 (by decide)).trans ?_
  rw [V2_outs, V2_eq, A1_2]

/-- The program's result: the two copies' rows of what the expert call leaves, added. -/
theorem V10_v18 (c : Dev nD) : V10 m (outs m hok) c (Proc.devRef .tc main_v18)
    = shapeCast S1x2048x1024 (addf (F := F)
        (takeY (A2 m hok c (Proc.devRef .tc main_v10)) (posOf0 (posOut (F := F) (tok m c) (wgt m c))))
        (takeY (A2 m hok c (Proc.devRef .tc main_v10)) (posOf1 (posOut (F := F) (tok m c) (wgt m c))))) shapeCasts_S2048x1024_S1x2048x1024 := by
  refine (h24_v18 _).trans ?_
  rw [show V9 m (outs m hok) c (Proc.devRef .tc main_v16) = _ from h23_v16 _,
    show V8 m (outs m hok) c (Proc.devRef .tc main_v15) = _ from h22_v15 _,
    V9_of m (outs m hok) c main_v13 (by decide), V8_of m (outs m hok) c main_v13 (by decide),
    show V7 m (outs m hok) c (Proc.devRef .tc main_v13) = _ from h21_v13 _,
    show V6 m (outs m hok) c (Proc.devRef .tc main_v12) = _ from h2_v12 _,
    V8_of m (outs m hok) c main_v10 (by decide), V7_of m (outs m hok) c main_v10 (by decide), V6_of m (outs m hok) c main_v10 (by decide),
    V7_of m (outs m hok) c main_v1_0 (by decide), V6_of m (outs m hok) c main_v1_0 (by decide), V5_v1_0, ← A2_eq]

end Cert.KernelIdeal.Run

end
-- ==== Proof.KernelIdeal.Table.lean ====
module

public import proofs.«01_k».proof.Proof.KernelIdeal.Host
public import Idealize.ShloMosaic.Lib.PointwiseCore

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pointwise

variable (x0 : Vec F S2048x1024 .f32) (x1 : Vec F S1024x8 .f32)

/-- The expert of a tile from the eight comparisons of the tile's first row with the experts' ends: how many hold, at most seven. -/
def tileWord (F : FTy → Type) [FloatOps F] (b : Fin 8 → BitVec 1) : BitVec 32 :=
  FloatOps.fptosi 32 (FloatOps.minimumf (F := F) (φ := .f32)
    (FloatOps.addf (FloatOps.addf (FloatOps.addf (FloatOps.addf (FloatOps.addf (FloatOps.addf (FloatOps.addf (FloatOps.addf
      (FloatOps.ofBits .f32 0x00000000#32) (FloatOps.sitofp .f32 (BitVec.setWidth 32 (b 0)))) (FloatOps.sitofp .f32 (BitVec.setWidth 32 (b 1))))
      (FloatOps.sitofp .f32 (BitVec.setWidth 32 (b 2)))) (FloatOps.sitofp .f32 (BitVec.setWidth 32 (b 3)))) (FloatOps.sitofp .f32 (BitVec.setWidth 32 (b 4))))
      (FloatOps.sitofp .f32 (BitVec.setWidth 32 (b 5)))) (FloatOps.sitofp .f32 (BitVec.setWidth 32 (b 6)))) (FloatOps.sitofp .f32 (BitVec.setWidth 32 (b 7))))
    (FloatOps.ofBits .f32 0x40E00000#32))

/-- Row 0 of the table holds, at each column, the tile word of the eight comparisons. -/
theorem pay101_apply (v : FVec F S1x8 .f32) (j : Fin 128) :
    k0_pay101 v (k0_pay99 (F := F)) (k0_pay100 v) (ix2 0 j)
      = tileWord F fun e => FloatOps.cmpf .oge (k0_pay99 (F := F) (ix2 0 j)) (v (ix2 0 e)) := by
  generalize h : k0_pay99 (F := F) = w
  unfold k0_pay101 k0_pay100 tileWord
  rw [h]
  pointwise

/-- A row below the first does not reach row 0. -/
theorem row_skip (k : Nat) (hk : ∀ a, (![k, 0] : Fin 2 → Nat) a + S1x128.size a ≤ S8x128.size a) (h0 : 0 < k)
    (w : S1x128.Idx → Elt F .i32) (L : List (View.Piece (Elt F) S8x128 .i32)) (j : Fin 128) :
    View.canon (⟨Rect.unit (s := S8x128) ![k, 0] S1x128.size hk, w⟩ :: L) (ix2 0 j) = View.canon L (ix2 0 j) := by
  apply View.canon_cons_of_not_mem
  intro h
  have h1 := (Rect.mem_set_unit (inb := hk)).mp h 0
  have : k ≤ 0 := h1.1
  omega

/-- The first row, laid last, is what row 0 reads. -/
theorem row_read (hk : ∀ a, (![0, 0] : Fin 2 → Nat) a + S1x128.size a ≤ S8x128.size a)
    (w : S1x128.Idx → Elt F .i32) (L : List (View.Piece (Elt F) S8x128 .i32)) (j : Fin 128) :
    View.canon (⟨Rect.unit (s := S8x128) ![0, 0] S1x128.size hk, w⟩ :: L) (ix2 0 j) = w (ix2 0 j) := by
  refine Eq.trans (congrArg _ ?_) (View.canon_cons_emb (Rect.unit (s := S8x128) ![0, 0] S1x128.size hk) w L (ix2 0 j : S1x128.Idx))
  funext a
  apply Fin.ext
  match a with
  | 0 => exact (by simp [Rect.emb, Rect.unit])
  | 1 => exact (by simp [Rect.emb, Rect.unit])

/-- The stores of the table read at row 0: the last payload. -/
theorem tmapOut_row0 (j : Fin 128) : tmapOut x0 x1 (ix2 0 j)
    = k0_pay101 (k0_pay13 (k0_pay10 x0 x1)) (k0_pay99 (F := F)) (k0_pay100 (k0_pay13 (k0_pay10 x0 x1))) (ix2 0 j) := by
  unfold tmapOut tmapPieces
  generalize k0_pay101 (k0_pay13 (k0_pay10 x0 x1)) (k0_pay99 (F := F)) (k0_pay100 (k0_pay13 (k0_pay10 x0 x1))) = G
  rw [row_skip, row_skip, row_skip, row_skip, row_skip, row_skip, row_skip, row_read] <;> decide

/-- The table's words are the tile words. -/
theorem tblOf_tmapOut (j : Fin 40) : tblOf (tmapOut x0 x1) (Idealize.ShloMosaic.ix1 j)
    = tileWord F fun e => FloatOps.cmpf .oge (k0_pay99 (F := F) (ix2 0 (j.castLE (by decide)))) (k0_pay13 (k0_pay10 x0 x1) (ix2 0 e)) := by
  rw [← pay101_apply, ← tmapOut_row0]
  generalize tmapOut x0 x1 = G
  unfold tblOf
  pointwise
  rfl

variable (m : (ℓ : Loc nD τ sig) → Buf (Elt F) ℓ)

/-- Words of at most seven keep every read of an expert's weights inside the eight experts'. -/
theorem tblOk_of (h : ∀ b : Fin 8 → BitVec 1, (tileWord F b).toNat ≤ 7) : TblOk m := by
  have hb : ∀ j : S40.Idx, (tbl m 0 j : BitVec 32).toNat ≤ 7 := by
    intro j
    rw [tbl_eq]
    exact (congrArg BitVec.toNat ((congrArg _ (eq_ix1 j)).trans (tblOf_tmapOut (F := F) (tok m 0) (wgt m 0) (j 0)))).trans_le (h _)
  unfold TblOk
  generalize tbl m = pf at hb
  have h1 : ∀ i : grid1.Coords, cc1_transform_1 k1_off1_inb numel1_S1 pf i 0 ≤ 7 := fun i => hb _
  have h2 : ∀ i : grid1.Coords, cc1_transform_2 k1_off1_inb numel1_S1 pf i 0 ≤ 7 := fun i => hb _
  have h3 : ∀ i : grid1.Coords, cc1_transform_3 k1_off1_inb numel1_S1 pf i 0 ≤ 7 := fun i => hb _
  refine ⟨fun i => ⟨?_, .inl rfl⟩, fun i => ⟨?_, .inl rfl⟩, fun i => ⟨?_, .inl rfl⟩⟩
  · intro a
    match a with
    | 0 => exact (by have := h1 i; change (_ + 1) * 1 ≤ 8; omega)
    | 1 => exact (by decide : (0 + 1) * 1024 ≤ 1024)
    | 2 => exact (by decide : (0 + 1) * 2048 ≤ 2048)
  · intro a
    match a with
    | 0 => exact (by have := h2 i; change (_ + 1) * 1 ≤ 8; omega)
    | 1 => exact (by decide : (0 + 1) * 1024 ≤ 1024)
    | 2 => exact (by decide : (0 + 1) * 2048 ≤ 2048)
  · intro a
    match a with
    | 0 => exact (by have := h3 i; change (_ + 1) * 1 ≤ 8; omega)
    | 1 => exact (by decide : (0 + 1) * 2048 ≤ 2048)
    | 2 => exact (by decide : (0 + 1) * 1024 ≤ 1024)

end Cert.KernelIdeal.Run

end
-- ==== Proof.KernelIdeal.Words.lean ====
module

public import Idealize.ShloMosaic.PureOps.Ideal
public import Idealize.ShloMosaic.Lib.Pointwise
public import Idealize.ShloMosaic.Lib.IdealHost

@[expose] public section

set_option maxRecDepth 16384

noncomputable section

namespace Cert.KernelIdeal.Run

open Idealize.ShloMosaic

/-! ## Natural numbers among the extended reals -/

/-- A natural number as an extended real. -/
def nn (n : ℕ) : EReal := ((n : ℝ) : EReal)

theorem nn_zero : nn 0 = 0 := by simp [nn]
theorem nn_one : nn 1 = 1 := by simp [nn]
theorem nn_add (a b : ℕ) : nn a + nn b = nn (a + b) := by unfold nn; push_cast; rfl
theorem nn_mul (a b : ℕ) : nn a * nn b = nn (a * b) := by unfold nn; push_cast; rfl
theorem nn_le {a b : ℕ} : nn a ≤ nn b ↔ a ≤ b := by unfold nn; rw [EReal.coe_le_coe_iff]; exact Nat.cast_le
theorem nn_lt {a b : ℕ} : nn a < nn b ↔ a < b := by unfold nn; rw [EReal.coe_lt_coe_iff]; exact Nat.cast_lt
theorem nn_inj {a b : ℕ} : nn a = nn b ↔ a = b := by unfold nn; rw [EReal.coe_eq_coe_iff]; exact Nat.cast_inj
theorem nn_min (a b : ℕ) : min (nn a) (nn b) = nn (min a b) := by
  rcases le_total a b with h | h
  · rw [min_eq_left (nn_le.mpr h), min_eq_left h]
  · rw [min_eq_right (nn_le.mpr h), min_eq_right h]
theorem nn_nonneg (a : ℕ) : 0 ≤ nn a := by rw [← nn_zero, nn_le]; exact Nat.zero_le _

/-- A sum of naturals is the natural of the sum. -/
theorem nn_sum {ι : Type*} (s : Finset ι) (f : ι → ℕ) : ∑ i ∈ s, nn (f i) = nn (∑ i ∈ s, f i) := by
  classical
  induction s using Finset.induction_on with
  | empty => simp [nn_zero]
  | insert a s ha ih => rw [Finset.sum_insert ha, Finset.sum_insert ha, ih, nn_add]

/-- A word below 2³¹ converts to its number. -/
theorem sitofp_nn {w : Nat} (x : BitVec w) (h : 2 * x.toNat < 2 ^ w) : (FloatOps.sitofp .f32 x : Ideal .f32) = nn x.toNat := by
  show ((x.toInt : ℝ) : EReal) = nn x.toNat
  rw [BitVec.toInt_eq_toNat_of_lt h]
  unfold nn
  push_cast
  rfl

/-- A number below 2³¹ converts to its word. -/
theorem fptosi_nn (n : ℕ) (h : n < 2 ^ 31) : FloatOps.fptosi (F := Ideal) (φ := .f32) 32 (nn n) = BitVec.ofNat 32 n := by
  show Ideal.fptosi 32 (nn n) = _
  unfold Ideal.fptosi nn
  rw [Ideal.toIntClamped_coe, if_pos (Nat.cast_nonneg n), Int.floor_natCast, min_eq_right (by omega), max_eq_right (by omega)]
  exact BitVec.ofInt_natCast 32 n

/-- A truth value, widened and converted, is the number one or zero. -/
theorem bit_nn (x : BitVec 1) : (FloatOps.sitofp .f32 (BitVec.setWidth 32 x) : Ideal .f32) = nn x.toNat := by
  have hx : x.toNat < 2 := x.isLt
  have e : (BitVec.setWidth 32 x).toNat = x.toNat := by
    rw [BitVec.toNat_setWidth]; omega
  rw [sitofp_nn _ (by rw [e]; omega), e]

/-- The truth value of a proposition, as a number. -/
theorem ofBool_nn (p : Prop) [Decidable p] : (BitVec.ofBool (decide p)).toNat = if p then 1 else 0 := by
  by_cases h : p <;> simp [h]

/-! ## The constants the kernel writes, as numbers -/

theorem c_0 : Ideal.ofBits .f32 0x00000000#32 = nn 0 := by
  simp [Ideal.ofBits, Ideal.ieee, nn]
theorem c_1 : Ideal.ofBits .f32 0x3F800000#32 = nn 1 := by
  simp [Ideal.ofBits, Ideal.ieee, nn, -EReal.coe_mul]; norm_num
theorem c_7 : Ideal.ofBits .f32 0x40E00000#32 = nn 7 := by
  simp [Ideal.ofBits, Ideal.ieee, nn, -EReal.coe_mul]; norm_num
theorem c_8 : Ideal.ofBits .f32 0x41000000#32 = nn 8 := by
  simp [Ideal.ofBits, Ideal.ieee, nn, -EReal.coe_mul]; norm_num
theorem c_128 : Ideal.ofBits .f32 0x43000000#32 = nn 128 := by
  simp [Ideal.ofBits, Ideal.ieee, nn, -EReal.coe_mul]; norm_num
theorem c_512 : Ideal.ofBits .f32 0x44000000#32 = nn 512 := by
  simp [Ideal.ofBits, Ideal.ieee, nn, -EReal.coe_mul]; norm_num
theorem c_1024 : Ideal.ofBits .f32 0x44800000#32 = nn 1024 := by
  simp [Ideal.ofBits, Ideal.ieee, nn, -EReal.coe_mul]; norm_num
theorem c_1536 : Ideal.ofBits .f32 0x44C00000#32 = nn 1536 := by
  simp [Ideal.ofBits, Ideal.ieee, nn, -EReal.coe_mul]; norm_num
theorem c_2048 : Ideal.ofBits .f32 0x45000000#32 = nn 2048 := by
  simp [Ideal.ofBits, Ideal.ieee, nn, -EReal.coe_mul]; norm_num
theorem c_2560 : Ideal.ofBits .f32 0x45200000#32 = nn 2560 := by
  simp [Ideal.ofBits, Ideal.ieee, nn, -EReal.coe_mul]; norm_num
theorem c_3072 : Ideal.ofBits .f32 0x45400000#32 = nn 3072 := by
  simp [Ideal.ofBits, Ideal.ieee, nn, -EReal.coe_mul]; norm_num
theorem c_3584 : Ideal.ofBits .f32 0x45600000#32 = nn 3584 := by
  simp [Ideal.ofBits, Ideal.ieee, nn, -EReal.coe_mul]; norm_num
theorem c_4096 : Ideal.ofBits .f32 0x45800000#32 = nn 4096 := by
  simp [Ideal.ofBits, Ideal.ieee, nn, -EReal.coe_mul]; norm_num
theorem c_4608 : Ideal.ofBits .f32 0x45900000#32 = nn 4608 := by
  simp [Ideal.ofBits, Ideal.ieee, nn, -EReal.coe_mul]; norm_num
theorem c_inv128 : Ideal.ofBits .f32 0x3C000000#32 = (((1 : ℝ) / 128 : ℝ) : EReal) := by
  simp [Ideal.ofBits, Ideal.ieee, -EReal.coe_mul]; norm_num
theorem c_neg1 : Ideal.ofBits .f32 0xBF800000#32 = ((-(1 : ℝ) : ℝ) : EReal) := by
  simp [Ideal.ofBits, Ideal.ieee, -EReal.coe_mul, -EReal.coe_neg]; norm_num
theorem c_top : Ideal.ofBits .f32 0x7F800000#32 = ⊤ := by
  simp [Ideal.ofBits, Ideal.ieee]
theorem c_bot : Ideal.ofBits .f32 0xFF800000#32 = ⊥ := by
  simp [Ideal.ofBits, Ideal.ieee]

end Cert.KernelIdeal.Run

end
-- ==== Proof.KernelIdeal.Bound.lean ====
module

public import proofs.«01_k».proof.Proof.KernelIdeal.Table
public import proofs.«01_k».proof.Proof.KernelIdeal.Words

@[expose] public section

set_option maxRecDepth 16384

noncomputable section

namespace Cert.KernelIdeal.Run

open Cert.KernelIdeal.Gen
open Idealize.ShloMosaic

/-- On extended reals the expert of a tile is the number of comparisons that hold, at most seven. -/
theorem tileWord_ideal (b : Fin 8 → BitVec 1) : tileWord Ideal b = BitVec.ofNat 32 (min (∑ e, (b e).toNat) 7) := by
  have h0 : (FloatOps.ofBits .f32 0x00000000#32 : Ideal .f32) = nn 0 := c_0
  have h7 : (FloatOps.ofBits .f32 0x40E00000#32 : Ideal .f32) = nn 7 := c_7
  have ha : ∀ n k : Nat, FloatOps.addf (F := Ideal) (φ := .f32) (nn n) (nn k) = nn (n + k) := nn_add
  have hm : ∀ n : Nat, FloatOps.minimumf (F := Ideal) (φ := .f32) (nn n) (nn 7) = nn (min n 7) := fun n => nn_min n 7
  unfold tileWord
  rw [h0, h7]
  simp only [bit_nn]
  rw [ha, ha, ha, ha, ha, ha, ha, ha, hm, fptosi_nn _ (by omega)]
  congr 2
  simp only [Fin.sum_univ_succ, Fin.sum_univ_zero]
  simp only [Fin.succ_zero_eq_one, Fin.succ_one_eq_two]
  show 0 + (b 0).toNat + (b 1).toNat + (b 2).toNat + (b 3).toNat + (b 4).toNat + (b 5).toNat + (b 6).toNat + (b 7).toNat
    = (b 0).toNat + ((b 1).toNat + ((b 2).toNat + ((b 3).toNat + ((b 4).toNat + ((b 5).toNat + ((b 6).toNat + ((b 7).toNat + 0)))))))
  omega

/-- It is at most seven. -/
theorem tileWord_le (b : Fin 8 → BitVec 1) : (tileWord Ideal b).toNat ≤ 7 := by
  rw [tileWord_ideal, BitVec.toNat_ofNat]
  omega

end Cert.KernelIdeal.Run

end
-- ==== Proof.Frames.lean ====
module

public import proofs.«01_k».proof.Defs
public import proofs.«01_k».proof.Proof.Gen.ReferenceIdeal.Run
public import proofs.«01_k».proof.Proof.Kernel.Bound
public import proofs.«01_k».proof.Proof.KernelIdeal.Bound
public import Idealize.ShloMosaic.Lib.Claim

@[expose] public section

noncomputable section

namespace Cert.Proof

open Idealize.ShloMosaic Idealize.SL.Sem

/-- The kernel runs to its end from any memory on the machine's words, leaves its arguments as they were and every counter at zero. -/
theorem frame_kernel : Cert.quiescent_Kernel (hKernel := Cert.Kernel.Gen.facts) := fun m g _ =>
  (θ_run _ _ _).mono (fun _ h => ⟨fun c => (h.1 c).2, h.2⟩)
    (Cert.Kernel.Run.run m g (Cert.Kernel.Run.tblOk_of m Cert.Kernel.Run.tileWord_bits))

/-- The same on extended reals. -/
theorem frame_ideal : Cert.quiescent_KernelIdeal (hKernelIdeal := Cert.KernelIdeal.Gen.facts) := fun m g _ =>
  (θ_run _ _ _).mono (fun _ h => ⟨fun c => (h.1 c).2, h.2⟩)
    (Cert.KernelIdeal.Run.run m g (Cert.KernelIdeal.Run.tblOk_of m Cert.KernelIdeal.Run.tileWord_le))

/-- The reference, at extended reals, runs to its end and leaves its arguments as they were; it has no counters. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

end Cert.Proof

end
-- ==== Proof.Finite.lean ====
module

public import proofs.«01_k».proof.Pre_finite_router
public import Idealize.ShloMosaic.Lib.ReduceAll
public import Idealize.ShloMosaic.Lib.Pointwise
public import proofs.«01_k».proof.Proof.KernelIdeal.Words

/-!
  The precondition, read back: the tokens and the router's weights are finite.
-/

@[expose] public section
set_option maxRecDepth 16384
noncomputable section
namespace Cert.Pre_finite_router
open Idealize.ShloMosaic Idealize.ShloMosaic.Pointwise

/-- The shape relations the precondition takes. -/
theorem facts : Facts := ⟨by decide, by decide, by decide, by decide, by decide⟩

/-- A number whose absolute value is below infinity is real. -/
theorem real_of_flag (x : EReal)
    (h : FloatOps.cmpf (F := Ideal) .olt (FloatOps.hostAbsf (F := Ideal) (φ := FTy.f32) x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [Cert.KernelIdeal.Run.c_top] at h'
  have hlt : max x (-x) < ⊤ := by
    unfold Ideal.cmp at h'
    by_contra hn
    simp [hn] at h'
  obtain ⟨h1, h2⟩ := max_lt_iff.1 hlt
  have h3 : x ≠ ⊥ := fun hb => by subst hb; exact lt_irrefl _ h2
  exact ⟨x.toReal, (EReal.coe_toReal h1.ne h3).symm⟩

instance : Subsingleton S_.Idx := ⟨fun i j => funext fun a => a.elim0⟩

/-- The precondition says that every token and every router weight is a real number. -/
theorem real_of_fn [Facts] (x : FVec Ideal S1x2048x1024 .f32) (w : FVec Ideal S1024x8 .f32) (w1 w3 : FVec Ideal S8x1024x2048 .f32)
    (w2 : FVec Ideal S8x2048x1024 .f32) (h : fn (F := Ideal) x w w1 w3 w2 = fun _ => 1#1) :
    (∀ i, ∃ r : ℝ, x i = (r : EReal)) ∧ ∀ i, ∃ r : ℝ, w i = (r : EReal) := by
  obtain ⟨h1, h2⟩ := IntOp.andi_eq_one.1 (congrFun h (fun a => a.elim0))
  exact ⟨fun i => real_of_flag _ (Host.reduce_andi_all _ _ _ _ _ h1 i), fun i => real_of_flag _ (Host.reduce_andi_all _ _ _ _ _ h2 i)⟩

end Cert.Pre_finite_router

end
-- ==== Proof.KernelIdeal.Probs.lean ====
module

public import proofs.«01_k».proof.Proof.KernelIdeal.Host
public import proofs.«01_k».proof.Proof.KernelIdeal.Words
public import Idealize.ShloMosaic.Lib.Pointwise

/-!
  The router's probabilities: a row's softmax over the eight experts, and its bound below when the row's logits are finite.
-/

@[expose] public section
set_option maxRecDepth 16384
noncomputable section
namespace Cert.KernelIdeal.Run
open Idealize.ShloMosaic Cert.KernelIdeal Cert.KernelIdeal.Gen Idealize.ShloMosaic.Pointwise

/-- The softmax of eight logits. -/
def prob (l : Fin 8 → EReal) (e : Fin 8) : EReal :=
  Ideal.div (Ideal.exp (l e - Finset.fold max (Ideal.ofBits FTy.f32 0xFF800000#32) l Finset.univ))
    (∑ k, Ideal.exp (l k - Finset.fold max (Ideal.ofBits FTy.f32 0xFF800000#32) l Finset.univ))

/-- The logit of an expert at a token. -/
def logit (x : Fin 1024 → EReal) (w : Fin 1024 → Fin 8 → EReal) (e : Fin 8) : EReal := ∑ k, x k * w k e

/-- The router's payload is the softmax of the logits. -/
theorem k0_pay2_prob (x0 : Vec Ideal S2048x1024 .f32) (x1 : Vec Ideal S1024x8 .f32) (t : Fin 2048) (e : Fin 8) :
    k0_pay2 x0 x1 (ix2 t e) = prob (logit (fun k => x0 (ix2 t k)) fun k e => x1 (ix2 k e)) e := by
  pointwise [k0_pay2]
  rfl

/-- A sum of reals is real. -/
theorem sum_real {ι : Type} [DecidableEq ι] (s : Finset ι) (f : ι → EReal) (h : ∀ k, ∃ r : ℝ, f k = (r : EReal)) :
    ∃ r : ℝ, ∑ k ∈ s, f k = (r : EReal) := by
  choose g hg using h
  exact ⟨∑ k ∈ s, g k, by rw [Finset.sum_congr rfl fun k _ => hg k]; exact (map_sum (⟨⟨Real.toEReal, rfl⟩, EReal.coe_add⟩ : ℝ →+ EReal) g s).symm⟩

/-- A logit of finite numbers is finite. -/
theorem logit_real (x : Fin 1024 → EReal) (w : Fin 1024 → Fin 8 → EReal) (hx : ∀ k, ∃ r : ℝ, x k = (r : EReal))
    (hw : ∀ k e, ∃ r : ℝ, w k e = (r : EReal)) (e : Fin 8) : ∃ r : ℝ, logit x w e = (r : EReal) := by
  refine sum_real _ _ fun k => ?_
  obtain ⟨a, ha⟩ := hx k
  obtain ⟨b, hb⟩ := hw k e
  exact ⟨a * b, by rw [ha, hb]; exact (EReal.coe_mul a b).symm⟩

/-- The softmax of finite logits is above −1 (it is not negative). -/
theorem prob_gt (l : Fin 8 → EReal) (hl : ∀ e, ∃ r : ℝ, l e = (r : EReal)) (e : Fin 8) : ((-(1 : ℝ) : ℝ) : EReal) < prob l e := by
  have hM : ∃ r : ℝ, Finset.fold max (Ideal.ofBits FTy.f32 0xFF800000#32) l Finset.univ = (r : EReal) := by
    have h1 : Finset.fold max (Ideal.ofBits FTy.f32 0xFF800000#32) l Finset.univ ≠ ⊤ := by
      refine ne_of_lt ((Finset.fold_max_lt _).2 ⟨by rw [c_bot]; exact bot_lt_top, fun k _ => ?_⟩)
      obtain ⟨r, hr⟩ := hl k
      rw [hr]; exact EReal.coe_lt_top r
    have h2 : Finset.fold max (Ideal.ofBits FTy.f32 0xFF800000#32) l Finset.univ ≠ ⊥ := by
      obtain ⟨r, hr⟩ := hl 0
      refine ne_of_gt (lt_of_lt_of_le (EReal.bot_lt_coe r) ((Finset.le_fold_max _).2 (Or.inr ⟨0, Finset.mem_univ _, hr.ge⟩)))
    exact ⟨_, (EReal.coe_toReal h1 h2).symm⟩
  unfold prob
  obtain ⟨M, hM⟩ := hM
  rw [hM]
  choose g hg using hl
  have he : ∀ k, Ideal.exp (l k - (M : EReal)) = ((Real.exp (g k - M) : ℝ) : EReal) := fun k => by
    rw [hg k, ← EReal.coe_sub]; rfl
  have hs : ∑ k, Ideal.exp (l k - (M : EReal)) = ((∑ k, Real.exp (g k - M) : ℝ) : EReal) := by
    rw [Finset.sum_congr rfl fun k _ => he k]
    exact (map_sum (⟨⟨Real.toEReal, rfl⟩, EReal.coe_add⟩ : ℝ →+ EReal) (fun k => Real.exp (g k - M)) Finset.univ).symm
  have hpos : 0 < ∑ k, Real.exp (g k - M) := Finset.sum_pos (fun k _ => Real.exp_pos _) ⟨0, Finset.mem_univ _⟩
  rw [hs, he e, Ideal.div_coe hpos.ne', ← EReal.coe_mul]
  refine EReal.coe_lt_coe_iff.2 (lt_of_lt_of_le (by norm_num) (mul_nonneg (Real.exp_pos _).le (one_div_nonneg.2 hpos.le)))

end Cert.KernelIdeal.Run

end
-- ==== Proof.KernelIdeal.Top2.lean ====
module

public import Mathlib.Data.EReal.Basic
public import Mathlib.Data.Fintype.Basic
public import Mathlib.Order.CompleteLattice.Basic
public import Mathlib.Data.Finset.Fold
public import Mathlib.Data.Finset.Max
public import proofs.«01_k».proof.Proof.KernelIdeal.Words

@[expose] public section

noncomputable section

namespace Cert.KernelIdeal.Run

/-! ## The two greatest of eight, ties to the lower index -/

/-- `i` is the greatest of `p`, the first among equals. -/
structure IsTop (p : Fin 8 → EReal) (i : Fin 8) : Prop where
  le : ∀ e, p e ≤ p i
  lt : ∀ e, e < i → p e < p i

/-- `i` is the greatest of `p` and `j` the greatest of the others, the first among equals. -/
structure IsTop2 (p : Fin 8 → EReal) (i j : Fin 8) : Prop where
  fst : IsTop p i
  ne : j ≠ i
  le : ∀ e, e ≠ i → p e ≤ p j
  lt : ∀ e, e ≠ i → e < j → p e < p j

/-- Some index is the greatest, the first among equals, of a set of indices. -/
theorem exists_top (p : Fin 8 → EReal) (s : Finset (Fin 8)) (hs : s.Nonempty) :
    ∃ i ∈ s, (∀ e ∈ s, p e ≤ p i) ∧ ∀ e ∈ s, e < i → p e < p i := by
  obtain ⟨b, hb, hm⟩ := s.exists_max_image p hs
  have hne : (s.filter fun e => p e = p b).Nonempty := ⟨b, by simp [hb]⟩
  refine ⟨(s.filter fun e => p e = p b).min' hne, ?_, ?_, ?_⟩
  · exact (Finset.mem_filter.mp (Finset.min'_mem _ hne)).1
  · intro e he
    rw [(Finset.mem_filter.mp (Finset.min'_mem _ hne)).2]
    exact hm e he
  · intro e he hlt
    have h2 := (Finset.mem_filter.mp (Finset.min'_mem _ hne)).2
    rw [h2]
    refine lt_of_le_of_ne (hm e he) fun h => ?_
    exact absurd (Finset.min'_le _ e (Finset.mem_filter.mpr ⟨he, h⟩)) (not_le.mpr hlt)

/-- Every family of eight has its two greatest. -/
theorem exists_top2 (p : Fin 8 → EReal) : ∃ i j, IsTop2 p i j := by
  obtain ⟨i, -, h1, h2⟩ := exists_top p Finset.univ ⟨0, Finset.mem_univ _⟩
  have hne : (Finset.univ.erase i).Nonempty := by
    rw [← Finset.card_pos, Finset.card_erase_of_mem (Finset.mem_univ _)]; simp
  obtain ⟨j, hj, h3, h4⟩ := exists_top p (Finset.univ.erase i) hne
  exact ⟨i, j, ⟨⟨fun e => h1 e (Finset.mem_univ _), fun e => h2 e (Finset.mem_univ _)⟩, Finset.ne_of_mem_erase hj,
    fun e he => h3 e (by simp [he]), fun e he => h4 e (by simp [he])⟩⟩

/-- The maximum folded from −∞ is the value at the top index. -/
theorem fold_max_top {p : Fin 8 → EReal} {i : Fin 8} (h : IsTop p i) : (Finset.univ : Finset (Fin 8)).fold max ⊥ p = p i := by
  refine le_antisymm ?_ ?_
  · rw [Finset.fold_max_le]
    exact ⟨bot_le, fun e _ => h.le e⟩
  · rw [Finset.le_fold_max]
    exact Or.inr ⟨i, Finset.mem_univ _, le_rfl⟩

/-- The minimum, folded from +∞, of the indices where the maximum is reached (eight elsewhere) is the top index. -/
theorem fold_min_top {p : Fin 8 → EReal} {i : Fin 8} (h : IsTop p i) (q : Fin 8 → EReal)
    (hq : ∀ e, q e = if p e = p i then nn e.val else nn 8) :
    (Finset.univ : Finset (Fin 8)).fold min ⊤ q = nn i.val := by
  refine le_antisymm ?_ ?_
  · rw [Finset.fold_min_le]
    exact Or.inr ⟨i, Finset.mem_univ _, by rw [hq, if_pos rfl]⟩
  · rw [Finset.le_fold_min]
    refine ⟨le_top, fun e _ => ?_⟩
    rw [hq]
    split
    · rename_i he
      rw [nn_le]
      by_contra hc
      exact absurd he (h.lt e (by rw [Fin.lt_def]; omega)).ne
    · rw [nn_le]; omega

/-- With the first put below every value, the second greatest is the greatest. -/
theorem top_masked {p q : Fin 8 → EReal} {i j : Fin 8} (h : IsTop2 p i j) (c : EReal) (hc : ∀ e, c < p e)
    (hq : ∀ e, q e = if e = i then c else p e) : IsTop q j ∧ q j = p j := by
  have hj : q j = p j := by rw [hq, if_neg h.ne]
  refine ⟨⟨fun e => ?_, fun e he => ?_⟩, hj⟩
  · rw [hj, hq]
    split
    · exact (hc j).le
    · rename_i hne; exact h.le e hne
  · rw [hj, hq]
    split
    · exact hc j
    · rename_i hne; exact h.lt e hne he

end Cert.KernelIdeal.Run

end
-- ==== Proof.KernelIdeal.Sort.lean ====
module

public import Idealize.ShloMosaic.PureOps.Ideal
public import Idealize.ShloMosaic.Lib.SortPrefix
public import Idealize.ShloMosaic.Lib.SortFacts
public import Idealize.ShloMosaic.Lib.ValueIdx
public import proofs.«01_k».proof.Proof.KernelIdeal.Top2

@[expose] public section

noncomputable section

namespace Cert.KernelIdeal.Run

open Idealize.ShloMosaic

/-! ## The host's top two -/

/-- The order of the host's sort of eight values, greatest first: earlier positions stay before later ones of equal value. -/
theorem sortedFrom_ties (p : Fin 8 → EReal) :
    sortedFrom (fun k k' : Fin 8 => decide (p k' < p k))
      = sortedFrom fun k k' : Fin 8 => decide (p k' < p k) || (decide (p k = p k') && decide (k < k')) := by
  have key : ∀ l : List (Fin 8), l.Pairwise (· < ·) →
      stableSort (fun k k' : Fin 8 => decide (p k' < p k)) l
        = stableSort (fun k k' : Fin 8 => decide (p k' < p k) || (decide (p k = p k') && decide (k < k'))) l := by
    intro l hl
    induction l with
    | nil => rfl
    | cons a l ih =>
      rw [List.pairwise_cons] at hl
      unfold stableSort
      rw [ih hl.2]
      refine insertBefore_congr _ _ a _ fun b hb => ?_
      have hb' : b ∈ l := (perm_stableSort _ l).mem_iff.mp hb
      have : ¬ b < a := (hl.1 b hb').not_gt
      simp [this]
  funext k
  unfold sortedFrom
  rw [List.get_of_eq (show sortPositions 8 _ = sortPositions 8 _ from key (List.finRange 8) (List.pairwise_lt_finRange 8))]
  rfl

/-- The first two positions of that sort are the two greatest. -/
theorem sortedFrom_top2 {p : Fin 8 → EReal} {i j : Fin 8} (h : IsTop2 p i j) :
    sortedFrom (fun k k' : Fin 8 => decide (p k' < p k)) 0 = i ∧ sortedFrom (fun k k' : Fin 8 => decide (p k' < p k)) 1 = j := by
  rw [sortedFrom_ties]
  have hB := StrictTotalBefore.of_key_then_position (n := 8) (fun x y : EReal => decide (y < x)) p (fun a => by simp)
    (fun a b c h1 h2 => by simp only [decide_eq_true_eq] at h1 h2 ⊢; exact h2.trans h1)
    (fun a b => by
      simp only [decide_eq_true_eq]
      rcases lt_trichotomy b a with h | h | h
      · exact Or.inl h
      · exact Or.inr (Or.inl h.symm)
      · exact Or.inr (Or.inr h))
  have first : ∀ e, e ≠ i → (decide (p i < p e) || (decide (p e = p i) && decide (e < i))) = false := by
    intro e he
    have h1 : ¬ p i < p e := (h.fst.le e).not_gt
    have h2 : ¬ (p e = p i ∧ e < i) := fun hc => (h.fst.lt e hc.2).ne hc.1
    simpa [h1] using h2
  have second : ∀ e, e ≠ i → e ≠ j → (decide (p j < p e) || (decide (p e = p j) && decide (e < j))) = false := by
    intro e he _
    have h1 : ¬ p j < p e := (h.le e he).not_gt
    have h2 : ¬ (p e = p j ∧ e < j) := fun hc => (h.lt e he hc.2).ne hc.1
    simpa [h1] using h2
  have main := hB.sortedFrom_eq_of_prefix (k := 2) (by omega) ![i, j]
    (by
      intro x y hxy
      fin_cases x <;> fin_cases y
      · rfl
      · exact absurd hxy (fun hc => h.ne (by simpa using hc.symm))
      · exact absurd hxy (fun hc => h.ne (by simpa using hc))
      · rfl)
    (by
      intro x y hxy
      fin_cases x <;> fin_cases y
      · exact absurd hxy (by decide)
      · exact first j h.ne
      · exact absurd hxy (by decide)
      · exact absurd hxy (by decide))
    (by
      intro x e he
      have h0 : e ≠ i := fun hc => he 0 hc.symm
      have h1 : e ≠ j := fun hc => he 1 hc.symm
      fin_cases x
      · exact first e h0
      · exact second e h0 h1)
  exact ⟨main 0, main 1⟩

/-- The slice of two columns from the first reads its own entry. -/
theorem slice_two {α : Type} (v : (⟨2, ![2048, 8]⟩ : Shape).Idx → α) (hf : (⟨2, ![2048, 8]⟩ : Shape).Slices (fun _ => 0) ⟨2, ![2048, 2]⟩)
    (t : Fin 2048) (k : Fin 2) : extractStridedSlice ⟨2, ![2048, 2]⟩ (fun _ => 0) v hf (ix2 t k) = v (ix2 t (k.castLE (by omega))) := by
  refine congrArg v (funext fun a => Fin.ext ?_)
  match a with
  | ⟨0, _⟩ => exact Nat.zero_add _
  | ⟨1, _⟩ => exact Nat.zero_add _

/-- The position along a row. -/
theorem along_row (t : Fin 2048) (l k : Fin 8) : Shape.Idx.along (s := ⟨2, ![2048, 8]⟩) (ix2 t l) (1 : Fin 2) k = ix2 t k := by
  funext a
  match a with
  | ⟨0, _⟩ => rfl
  | ⟨1, _⟩ => rfl

/-- A row of the host's sort, values and positions. -/
theorem sort2_row (x : FVec Ideal ⟨2, ![2048, 8]⟩ .f32) (y : IVec ⟨2, ![2048, 8]⟩ 32) (t : Fin 2048) (l : Fin 8) :
    (Host.sort2 ⟨2, ![2048, 8]⟩ 1 (fun l r => FloatOps.cmpfTotal .gt l.1 r.1) x y).1 (ix2 t l)
        = x (ix2 t (sortedFrom (fun k k' : Fin 8 => decide (x (ix2 t k') < x (ix2 t k))) l))
      ∧ (Host.sort2 ⟨2, ![2048, 8]⟩ 1 (fun l r => FloatOps.cmpfTotal .gt l.1 r.1) x y).2 (ix2 t l)
        = y (ix2 t (sortedFrom (fun k k' : Fin 8 => decide (x (ix2 t k') < x (ix2 t k))) l)) := by
  have hc : ∀ k k' : Fin 8, (FloatOps.cmpfTotal .gt (x (Shape.Idx.along (s := ⟨2, ![2048, 8]⟩) (ix2 t l) (1 : Fin 2) k))
      (x (Shape.Idx.along (s := ⟨2, ![2048, 8]⟩) (ix2 t l) (1 : Fin 2) k')) == 1#1) = decide (x (ix2 t k') < x (ix2 t k)) := by
    intro k k'
    rw [along_row, along_row]
    show (BitVec.ofBool (decide (x (ix2 t k') < x (ix2 t k))) == 1#1) = _
    cases decide (x (ix2 t k') < x (ix2 t k)) <;> rfl
  have hs : (sortedFrom fun k k' : Fin 8 => FloatOps.cmpfTotal .gt (x (Shape.Idx.along (s := ⟨2, ![2048, 8]⟩) (ix2 t l) (1 : Fin 2) k))
      (x (Shape.Idx.along (s := ⟨2, ![2048, 8]⟩) (ix2 t l) (1 : Fin 2) k')) == 1#1)
        = sortedFrom fun k k' : Fin 8 => decide (x (ix2 t k') < x (ix2 t k)) :=
    congrArg sortedFrom (funext fun k => funext fun k' => hc k k')
  refine ⟨?_, ?_⟩
  · refine Eq.trans ?_ (congrArg (fun q => x (ix2 t (q l))) hs)
    exact congrArg x (along_row t l _)
  · refine Eq.trans ?_ (congrArg (fun q => y (ix2 t (q l))) hs)
    exact congrArg y (along_row t l _)

/-- The host's two greatest of every row, with where they lie. -/
theorem topK_top2 (x : FVec Ideal ⟨2, ![2048, 8]⟩ .f32) (hf : (⟨2, ![2048, 8]⟩ : Shape).Slices (fun _ => 0) ⟨2, ![2048, 2]⟩) (t : Fin 2048)
    {i j : Fin 8} (h : IsTop2 (fun e => x (ix2 t e)) i j) :
    ((Host.topK ⟨2, ![2048, 2]⟩ 1 (FloatOps.cmpfTotal .gt) x hf).1 (ix2 t 0) = x (ix2 t i)
      ∧ (Host.topK ⟨2, ![2048, 2]⟩ 1 (FloatOps.cmpfTotal .gt) x hf).1 (ix2 t 1) = x (ix2 t j))
    ∧ (Host.topK ⟨2, ![2048, 2]⟩ 1 (FloatOps.cmpfTotal .gt) x hf).2 (ix2 t 0) = BitVec.ofNat 32 i.val
      ∧ (Host.topK ⟨2, ![2048, 2]⟩ 1 (FloatOps.cmpfTotal .gt) x hf).2 (ix2 t 1) = BitVec.ofNat 32 j.val := by
  obtain ⟨h0, h1⟩ := sortedFrom_top2 h
  have hr := fun l => sort2_row x (fun i => if hd : 1 < 2 then iotaInDim ⟨2, ![2048, 8]⟩ 32 ⟨1, hd⟩ i else 0#32) t l
  refine ⟨⟨?_, ?_⟩, ?_, ?_⟩
  · refine (slice_two _ hf t 0).trans (Eq.trans (hr 0).1 ?_)
    rw [h0]
  · refine (slice_two _ hf t 1).trans (Eq.trans (hr 1).1 ?_)
    rw [h1]
  · refine (slice_two _ hf t 0).trans (Eq.trans (hr 0).2 ?_)
    rw [h0]; rfl
  · refine (slice_two _ hf t 1).trans (Eq.trans (hr 1).2 ?_)
    rw [h1]; rfl

end Cert.KernelIdeal.Run

end
-- ==== Proof.KernelIdeal.Places.lean ====
module

public import Mathlib.Data.Fintype.BigOperators
public import Mathlib.Algebra.BigOperators.Fin
public import Mathlib.Algebra.Order.BigOperators.Group.Finset
public import Mathlib.Tactic.Linarith

@[expose] public section

namespace Cert.KernelIdeal.Run

open Finset

/-! ## Where the assignments are put

Every token `t` is assigned to the experts `a t` and `b t`. Each expert's assignments are put in one stretch of places, of its
count rounded up to a multiple of 128, the stretches one after another: the first assignments of all the tokens, in order,
then the second ones. -/

variable (a b : Fin 2048 → Fin 8)

/-- How many assignments the expert `e` has. -/
def cnt (e : Fin 8) : ℕ := ∑ t, ((if a t = e then 1 else 0) + (if b t = e then 1 else 0))

/-- The length of the stretch of the expert `e`. -/
def pad (e : Fin 8) : ℕ := (cnt a b e + 127) / 128 * 128

/-- Where the stretch of the expert `e` begins. -/
def off (e : Fin 8) : ℕ := ∑ e', if e' < e then pad a b e' else 0

/-- How many tokens before `t` have `e` as `f`. -/
def rank (f : Fin 2048 → Fin 8) (t : Fin 2048) (e : Fin 8) : ℕ := ∑ t', if t' < t then (if f t' = e then 1 else 0) else 0

/-- The place of the first assignment of the token `t`. -/
def place0 (t : Fin 2048) : ℕ := off a b (a t) + rank a t (a t)

/-- The place of the second assignment of the token `t`. -/
def place1 (t : Fin 2048) : ℕ := off a b (b t) + (rank b t (b t) + ∑ t', if a t' = b t then 1 else 0)

/-- A rank grows at the tokens counted. -/
theorem rank_lt (f : Fin 2048 → Fin 8) {t u : Fin 2048} (h : t < u) {e : Fin 8} (he : f t = e) : rank f t e < rank f u e := by
  unfold rank
  refine Finset.sum_lt_sum (fun x _ => ?_) ⟨t, Finset.mem_univ _, ?_⟩
  · by_cases hx : x < t
    · rw [if_pos hx, if_pos (hx.trans h)]
    · rw [if_neg hx]; exact Nat.zero_le _
  · rw [if_neg (lt_irrefl _), if_pos h, if_pos he]; exact Nat.one_pos

/-- The rank of a token counted is below the count. -/
theorem rank_lt_total (f : Fin 2048 → Fin 8) (t : Fin 2048) : rank f t (f t) < ∑ t', if f t' = f t then 1 else 0 := by
  unfold rank
  refine Finset.sum_lt_sum (fun x _ => ?_) ⟨t, Finset.mem_univ _, ?_⟩
  · split
    · exact le_rfl
    · exact Nat.zero_le _
  · rw [if_neg (lt_irrefl _), if_pos rfl]; exact Nat.one_pos

theorem cnt_eq (e : Fin 8) : cnt a b e = (∑ t, if a t = e then 1 else 0) + ∑ t, if b t = e then 1 else 0 := Finset.sum_add_distrib

theorem cnt_le_pad (e : Fin 8) : cnt a b e ≤ pad a b e := by unfold pad; omega

theorem pad_dvd (e : Fin 8) : 128 ∣ pad a b e := ⟨(cnt a b e + 127) / 128, by unfold pad; omega⟩

theorem off_dvd (e : Fin 8) : 128 ∣ off a b e := by
  refine Finset.dvd_sum fun x _ => ?_
  split
  · exact pad_dvd a b x
  · exact dvd_zero _

/-- A stretch ends before any later one begins. -/
theorem end_le_off {e e' : Fin 8} (h : e < e') : off a b e + pad a b e ≤ off a b e' := by
  have : off a b e + pad a b e = ∑ x, if x ≤ e then pad a b x else 0 := by
    have hs : ∀ x, (if x ≤ e then pad a b x else 0) = (if x < e then pad a b x else 0) + if x = e then pad a b x else 0 := by
      intro x
      rcases lt_trichotomy x e with h | h | h
      · rw [if_pos h.le, if_pos h, if_neg h.ne]; rfl
      · subst h; rw [if_pos le_rfl, if_neg (lt_irrefl _), if_pos rfl]; omega
      · rw [if_neg (not_le.mpr h), if_neg h.not_gt, if_neg h.ne']
    rw [Finset.sum_congr rfl fun x _ => hs x, Finset.sum_add_distrib, Finset.sum_ite_eq' Finset.univ e, if_pos (Finset.mem_univ _)]
    rfl
  rw [this]
  refine Finset.sum_le_sum fun x _ => ?_
  by_cases hx : x ≤ e
  · rw [if_pos hx, if_pos (hx.trans_lt h)]
  · rw [if_neg hx]; exact Nat.zero_le _

/-- All the counts make up twice the tokens. -/
theorem cnt_sum : ∑ e, cnt a b e = 4096 := by
  unfold cnt
  rw [Finset.sum_comm]
  have : ∀ t : Fin 2048, (∑ e, ((if a t = e then 1 else 0) + if b t = e then 1 else 0)) = 2 := by
    intro t
    rw [Finset.sum_add_distrib, Finset.sum_ite_eq Finset.univ (a t), Finset.sum_ite_eq Finset.univ (b t)]
    simp
  rw [Finset.sum_congr rfl fun t _ => this t]
  simp

/-- Every stretch ends within the 5120 places. -/
theorem end_le (e : Fin 8) : off a b e + pad a b e ≤ 5120 := by
  have h1 : off a b e + pad a b e ≤ ∑ x, pad a b x := by
    unfold off
    rw [← Finset.sum_erase_add _ _ (Finset.mem_univ e), if_neg (lt_irrefl _), ← Finset.sum_erase_add (a := e) univ (pad a b) (Finset.mem_univ e)]
    have : (∑ x ∈ univ.erase e, if x < e then pad a b x else 0) ≤ ∑ x ∈ univ.erase e, pad a b x := by
      refine Finset.sum_le_sum fun x _ => ?_
      split
      · exact le_rfl
      · exact Nat.zero_le _
    omega
  have h2 : ∑ x, pad a b x ≤ ∑ x : Fin 8, (cnt a b x + 127) := by
    refine Finset.sum_le_sum fun x _ => ?_
    unfold pad; omega
  rw [Finset.sum_add_distrib, cnt_sum] at h2
  simp at h2
  omega

/-- The first assignment's place is in its expert's stretch, among the first ones. -/
theorem place0_bounds (t : Fin 2048) : off a b (a t) ≤ place0 a b t ∧ place0 a b t < off a b (a t) + ∑ t', if a t' = a t then 1 else 0 := by
  have := rank_lt_total a t
  unfold place0
  omega

/-- The second assignment's place is in its expert's stretch, after the first ones. -/
theorem place1_bounds (t : Fin 2048) :
    (off a b (b t) + ∑ t', if a t' = b t then 1 else 0) ≤ place1 a b t ∧ place1 a b t < off a b (b t) + cnt a b (b t) := by
  have := rank_lt_total b t
  rw [cnt_eq]
  unfold place1
  omega

theorem place0_lt (t : Fin 2048) : place0 a b t < off a b (a t) + pad a b (a t) := by
  have h1 := (place0_bounds a b t).2
  have h2 := cnt_le_pad a b (a t)
  rw [cnt_eq] at h2
  omega

theorem place1_lt (t : Fin 2048) : place1 a b t < off a b (b t) + pad a b (b t) := by
  have h1 := (place1_bounds a b t).2
  have h2 := cnt_le_pad a b (b t)
  omega

theorem place0_le (t : Fin 2048) : off a b (a t) ≤ place0 a b t := (place0_bounds a b t).1
theorem place1_le (t : Fin 2048) : off a b (b t) ≤ place1 a b t := le_trans (by omega) (place1_bounds a b t).1

theorem place0_lt_5120 (t : Fin 2048) : place0 a b t < 5120 := (place0_lt a b t).trans_le (end_le a b _)
theorem place1_lt_5120 (t : Fin 2048) : place1 a b t < 5120 := (place1_lt a b t).trans_le (end_le a b _)

/-- A place lies in the stretch of one expert only. -/
theorem stretch_unique {e e' : Fin 8} {s : ℕ} (h1 : off a b e ≤ s) (h2 : s < off a b e + pad a b e) (h3 : off a b e' ≤ s)
    (h4 : s < off a b e' + pad a b e') : e = e' := by
  rcases lt_trichotomy e e' with h | h | h
  · have := end_le_off a b h; omega
  · exact h
  · have := end_le_off a b h; omega

/-- The first assignments have places of their own. -/
theorem place0_inj {t u : Fin 2048} (h : place0 a b t = place0 a b u) : t = u := by
  have he : a t = a u := stretch_unique a b (place0_le a b t) (place0_lt a b t) ((place0_le a b u).trans_eq h.symm) (h.trans_lt (place0_lt a b u))
  unfold place0 at h
  rw [he] at h
  rcases lt_trichotomy t u with hl | hl | hl
  · have := rank_lt a hl he; omega
  · exact hl
  · have := rank_lt a hl (e := a u) rfl; omega

/-- The second assignments have places of their own. -/
theorem place1_inj {t u : Fin 2048} (h : place1 a b t = place1 a b u) : t = u := by
  have he : b t = b u := stretch_unique a b (place1_le a b t) (place1_lt a b t) ((place1_le a b u).trans_eq h.symm) (h.trans_lt (place1_lt a b u))
  unfold place1 at h
  rw [he] at h
  rcases lt_trichotomy t u with hl | hl | hl
  · have := rank_lt b hl he; omega
  · exact hl
  · have := rank_lt b hl (e := b u) rfl; omega

/-- No first assignment has the place of a second one. -/
theorem place_ne (t u : Fin 2048) : place0 a b t ≠ place1 a b u := by
  intro h
  have he : a t = b u := stretch_unique a b (place0_le a b t) (place0_lt a b t) ((place1_le a b u).trans_eq h.symm) (h.trans_lt (place1_lt a b u))
  have h1 := (place0_bounds a b t).2
  have h2 := (place1_bounds a b u).1
  rw [he] at h1
  omega

/-- The number of stretches ending at or before the tile of a place is the number of that place's expert. -/
theorem tile_expert {e : Fin 8} {s : ℕ} (h1 : off a b e ≤ s) (h2 : s < off a b e + pad a b e) :
    (∑ x : Fin 8, if off a b x + pad a b x ≤ s / 128 * 128 then 1 else 0) = e.val := by
  have hk : ∀ x : Fin 8, (off a b x + pad a b x ≤ s / 128 * 128) ↔ x < e := by
    intro x
    obtain ⟨k, hk⟩ := off_dvd a b e
    constructor
    · intro h
      by_contra hc
      rcases (not_lt.mp hc).lt_or_eq with hl | hl
      · have := end_le_off a b hl; omega
      · subst hl; omega
    · intro h
      have := end_le_off a b h; omega
  rw [Finset.sum_congr rfl fun x _ => by rw [if_congr (hk x) rfl rfl]]
  revert e
  intro e _ _ _
  clear * -
  revert e
  decide

end Cert.KernelIdeal.Run

end
-- ==== Proof.KernelIdeal.Route.lean ====
module

public import proofs.«01_k».proof.Proof.Gen.KernelIdeal.Skeleton
public import proofs.«01_k».proof.Proof.KernelIdeal.Places
public import proofs.«01_k».proof.Proof.KernelIdeal.Top2

@[expose] public section

set_option maxRecDepth 16384

noncomputable section

namespace Cert.KernelIdeal.Run

open Idealize.ShloMosaic Cert.KernelIdeal Cert.KernelIdeal.Gen Idealize.ShloMosaic.Pointwise

/-! ## What the router computes, over the extended reals -/

/-- A small number's word converts to the number. -/
theorem sitofp_ofNat (n : ℕ) (h : n < 2 ^ 31) : (FloatOps.sitofp .f32 (BitVec.ofNat 32 n) : Ideal .f32) = nn n := by
  have e : (BitVec.ofNat 32 n).toNat = n := by rw [BitVec.toNat_ofNat]; omega
  rw [sitofp_nn _ (by rw [e]; omega), e]

/-- The number of a proposition as the kernel makes it. -/
theorem flag_nn (p : Prop) [Decidable p] :
    (FloatOps.sitofp .f32 (BitVec.setWidth 32 (BitVec.ofBool (decide p))) : Ideal .f32) = nn (if p then 1 else 0) := by
  rw [bit_nn, ofBool_nn]

/-- A sum of products with a flag picks the flagged terms. -/
theorem flag_mul_nn (p : Prop) [Decidable p] (n : ℕ) : nn (if p then 1 else 0) * nn n = nn (if p then n else 0) := by
  rw [nn_mul]
  congr 1
  split <;> simp

section tokens

variable (x0 : Vec Ideal S2048x1024 .f32) (x1 : Vec Ideal S1024x8 .f32) (a b : Fin 2048 → Fin 8)

/-- The experts' numbers. -/
theorem pay3_apply (t : Fin 2048) (e : Fin 8) : k0_pay3 (F := Ideal) (ix2 t e) = nn e.val := by
  pointwise [k0_pay3]
  exact sitofp_ofNat _ (by omega)

variable (h : ∀ t, IsTop2 (fun e => k0_pay2 x0 x1 (ix2 t e)) (a t) (b t))
  (hp : ∀ t e, (((-(1 : ℝ) : ℝ) : EReal)) < k0_pay2 x0 x1 (ix2 t e))
include h

/-- The first weight is the greatest probability. -/
theorem pay4_apply (t : Fin 2048) : k0_pay4 x0 x1 (ix2 t 0) = k0_pay2 x0 x1 (ix2 t (a t)) := by
  pointwise [k0_pay4]
  rw [c_bot]
  exact fold_max_top (h t).fst

/-- The first expert. -/
theorem pay5_apply (t : Fin 2048) : k0_pay5 x0 x1 (ix2 t 0) = nn (a t).val := by
  pointwise [k0_pay5]
  rw [c_top]
  refine fold_min_top (h t).fst _ fun e => ?_
  rw [pay4_apply x0 x1 a b h, pay3_apply, c_8]

/-- The probabilities with the first expert's put at −1. -/
theorem pay6_apply (t : Fin 2048) (e : Fin 8) :
    k0_pay6 x0 x1 (ix2 t e) = if e = a t then (((-(1 : ℝ) : ℝ) : EReal)) else k0_pay2 x0 x1 (ix2 t e) := by
  pointwise [k0_pay6]
  rw [pay3_apply, pay5_apply x0 x1 a b h, c_neg1]
  refine if_congr ?_ rfl rfl
  rw [nn_inj, Fin.val_inj]

/-- The first assignments, one per token. -/
theorem pay8_apply (t : Fin 2048) (e : Fin 8) : k0_pay8 x0 x1 (ix2 t e) = nn (if a t = e then 1 else 0) := by
  pointwise [k0_pay8]
  rw [pay3_apply, pay5_apply x0 x1 a b h, flag_nn]
  congr 1
  refine if_congr ?_ rfl rfl
  rw [nn_inj, Fin.val_inj]
  exact eq_comm

include hp

/-- The second weight is the greatest of the other probabilities. -/
theorem pay7_apply (t : Fin 2048) : k0_pay7 x0 x1 (ix2 t 0) = k0_pay2 x0 x1 (ix2 t (b t)) := by
  have hm := top_masked (q := fun e => k0_pay6 x0 x1 (ix2 t e)) (h t) _ (hp t) fun e => pay6_apply x0 x1 a b h t e
  pointwise [k0_pay7]
  rw [c_bot]
  exact (fold_max_top hm.1).trans hm.2

/-- The second assignments, one per token. -/
theorem pay9_apply (t : Fin 2048) (e : Fin 8) : k0_pay9 x0 x1 (ix2 t e) = nn (if b t = e then 1 else 0) := by
  have hm := top_masked (q := fun e => k0_pay6 x0 x1 (ix2 t e)) (h t) _ (hp t) fun e => pay6_apply x0 x1 a b h t e
  have hf := fold_min_top hm.1 (fun e => if k0_pay6 x0 x1 (ix2 t e) = k0_pay7 x0 x1 (ix2 t 0) then k0_pay3 (F := Ideal) (ix2 t e)
      else Ideal.ofBits .f32 0x41000000#32) fun e => by
    rw [pay7_apply x0 x1 a b h hp, pay3_apply, c_8, ← hm.2]
  pointwise [k0_pay9]
  rw [c_top]
  refine (congrArg (fun z => (FloatOps.sitofp .f32 (BitVec.setWidth 32 (BitVec.ofBool (decide (k0_pay3 (F := Ideal) (ix2 t e) = z)))) : Ideal .f32)) hf).trans ?_
  rw [pay3_apply]
  refine (flag_nn _).trans (congrArg nn (if_congr ?_ rfl rfl))
  rw [nn_inj, Fin.val_inj]
  exact eq_comm

/-- The experts' counts. -/
theorem pay10_apply (e : Fin 8) : k0_pay10 x0 x1 (Idealize.ShloMosaic.ix1 e) = nn (cnt a b e) := by
  pointwise [k0_pay10]
  unfold cnt
  rw [← nn_sum]
  refine Finset.sum_congr rfl fun t _ => ?_
  rw [pay8_apply x0 x1 a b h, pay9_apply x0 x1 a b h hp, nn_add]

end tokens

/-! ### The places, from the flags and the counts -/

section places

variable (a b : Fin 2048 → Fin 8) (v38 v42 : FVec Ideal S2048x8 .f32) (v44 : FVec Ideal S8 .f32)
  (h38 : ∀ t e, v38 (ix2 t e) = nn (if a t = e then 1 else 0)) (h42 : ∀ t e, v42 (ix2 t e) = nn (if b t = e then 1 else 0))
  (h44 : ∀ e, v44 (Idealize.ShloMosaic.ix1 e) = nn (cnt a b e))

/-- A count over 128, rounded up. -/
theorem ceil_128 (n : ℕ) : Ideal.liftRound Int.ceil (nn n * (((1 : ℝ) / 128 : ℝ) : EReal)) = nn ((n + 127) / 128) := by
  have e : nn n * (((1 : ℝ) / 128 : ℝ) : EReal) = (((n : ℝ) / 128 : ℝ) : EReal) := by
    unfold nn
    rw [← EReal.coe_mul]
    congr 1
    ring
  rw [e]
  show (((⌈(n : ℝ) / 128⌉ : ℤ) : ℝ) : EReal) = nn ((n + 127) / 128)
  unfold nn
  congr 1
  have : ⌈(n : ℝ) / 128⌉ = (((n + 127) / 128 : ℕ) : ℤ) := by
    have h1 : n ≤ (n + 127) / 128 * 128 := by omega
    have h2 : (n + 127) / 128 * 128 < n + 128 := by omega
    generalize (n + 127) / 128 = q at h1 h2
    rw [Int.ceil_eq_iff]
    have h1' : (n : ℝ) ≤ (q : ℝ) * 128 := by exact_mod_cast h1
    have h2' : (q : ℝ) * 128 < (n : ℝ) + 128 := by exact_mod_cast h2
    constructor
    · push_cast; linarith
    · push_cast; linarith
  rw [this]
  rfl

include h44

/-- The stretches' lengths. -/
theorem pay11_apply (e : Fin 8) : k0_pay11 v44 (ix2 0 e) = nn (pad a b e) := by
  pointwise [k0_pay11]
  rw [h44, c_inv128, c_128, ceil_128, nn_mul]
  rfl

/-- The stretches' beginnings. -/
theorem pay12_apply (e : Fin 8) : k0_pay12 v44 (ix2 0 e) = nn (off a b e) := by
  pointwise [k0_pay12]
  unfold off
  rw [← nn_sum]
  refine Finset.sum_congr rfl fun x _ => ?_
  rw [pay11_apply a b v44 h44, flag_nn, mul_comm, flag_mul_nn, sitofp_ofNat _ (by omega), sitofp_ofNat _ (by omega)]
  congr 1
  exact if_congr (nn_lt.trans Fin.lt_def.symm) rfl rfl

/-- The stretches' ends. -/
theorem pay13_apply (e : Fin 8) : k0_pay13 v44 (ix2 0 e) = nn (off a b e + pad a b e) := by
  pointwise [k0_pay13]
  rw [pay12_apply a b v44 h44, pay11_apply a b v44 h44, nn_add]

omit h44 in
/-- The strict lower triangle. -/
theorem pay14_apply (t u : Fin 2048) : k0_pay14 (F := Ideal) (ix2 t u) = nn (if u < t then 1 else 0) := by
  pointwise [k0_pay14]
  rw [flag_nn, sitofp_ofNat _ (by omega), sitofp_ofNat _ (by omega)]
  congr 1
  exact if_congr (nn_lt.trans Fin.lt_def.symm) rfl rfl

omit h44 in
/-- The ranks, by the triangle. -/
theorem rank_apply (f : Fin 2048 → Fin 8) (v : FVec Ideal S2048x8 .f32) (hv : ∀ t e, v (ix2 t e) = nn (if f t = e then 1 else 0))
    (t : Fin 2048) (e : Fin 8) : ∑ u, k0_pay14 (F := Ideal) (ix2 t u) * v (ix2 u e) = nn (rank f t e) := by
  unfold rank
  rw [← nn_sum]
  refine Finset.sum_congr rfl fun u _ => ?_
  rw [pay14_apply, hv, flag_mul_nn]

omit h44 in
/-- A sum over the experts of a flag's products is the flagged one. -/
theorem pick_apply (f : Fin 8) (v : Fin 8 → EReal) (n : Fin 8 → ℕ) (hv : ∀ e, v e = nn (if f = e then 1 else 0)) :
    ∑ e, v e * nn (n e) = nn (n f) := by
  rw [Finset.sum_congr rfl fun e _ => by rw [hv e, flag_mul_nn], nn_sum, Finset.sum_ite_eq Finset.univ f, if_pos (Finset.mem_univ _)]

include h38

/-- The first assignments' places. -/
theorem pay16_apply (t : Fin 2048) : k0_pay16 v38 v44 (Idealize.ShloMosaic.ix1 t) = nn (place0 a b t) := by
  pointwise [k0_pay16, k0_pay15]
  refine Eq.trans (Finset.sum_congr rfl fun e _ => ?_)
    (pick_apply (a t) (fun e => v38 (ix2 t e)) (fun e => off a b e + rank a t e) (h38 t))
  rw [rank_apply a v38 h38, pay12_apply a b v44 h44, nn_add]

include h42

/-- The second assignments' places. -/
theorem pay17_apply (t : Fin 2048) : k0_pay17 v38 v42 v44 (Idealize.ShloMosaic.ix1 t) = nn (place1 a b t) := by
  pointwise [k0_pay17, k0_pay15]
  refine Eq.trans (Finset.sum_congr rfl fun e _ => ?_)
    (pick_apply (b t) (fun e => v42 (ix2 t e)) (fun e => off a b e + (rank b t e + ∑ u, if a u = e then 1 else 0)) (h42 t))
  rw [rank_apply b v42 h42, pay12_apply a b v44 h44, Finset.sum_congr rfl fun u _ => h38 u e, nn_sum, nn_add, nn_add]

end places

end Cert.KernelIdeal.Run

end
-- ==== Proof.KernelIdeal.Sorted.lean ====
module

public import proofs.«01_k».proof.Proof.KernelIdeal.Route
public import proofs.«01_k».proof.Proof.KernelIdeal.Host

@[expose] public section

set_option maxRecDepth 16384

noncomputable section

namespace Cert.KernelIdeal.Run

open Idealize.ShloMosaic Cert.KernelIdeal Cert.KernelIdeal.Gen Idealize.ShloMosaic.Pointwise

/-! ## The lists sorted by expert: which token, and what weight, each place holds -/

section blocks

variable (v74 v84 : FVec Ideal S2048 .f32) (v118 v119 v120 : FVec Ideal S1x2048 .f32)

/-- What a place collects: the first row's entries of the tokens whose first place it is, the second's of those whose second
    place it is. -/
def collect (u w : FVec Ideal S1x2048 .f32) (r : EReal) : EReal :=
  ∑ t, u (ix2 0 t) * (FloatOps.sitofp .f32 (BitVec.setWidth 32 (BitVec.ofBool (decide (v74 (Idealize.ShloMosaic.ix1 t) = r)))) : Ideal .f32)
    + ∑ t, w (ix2 0 t) * (FloatOps.sitofp .f32 (BitVec.setWidth 32 (BitVec.ofBool (decide (v84 (Idealize.ShloMosaic.ix1 t) = r)))) : Ideal .f32)

theorem wsrt_block0 (l : Fin 512) : (k0_pay34 v74 v84 v119 v120 (k0_pay30 (F := Ideal))) (ix2 0 l) = collect v74 v84 v119 v120 (nn l.val) := by
  pointwise [k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  rw [sitofp_ofNat l.val (by omega)]
  rfl

theorem tsrc_block0 (l : Fin 512) : (k0_pay33 v74 v84 v118 (k0_pay30 (F := Ideal))) (ix2 0 l) = FloatOps.fptosi (F := Ideal) (φ := .f32) 32 (collect v74 v84 v118 v118 (nn l.val)) := by
  pointwise [k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  rw [sitofp_ofNat l.val (by omega)]
  rfl

theorem wsrt_block1 (l : Fin 512) : (k0_pay40 v119 v120 (k0_pay36 v74) (k0_pay37 v84) (constant S1x512 .f32 0x00000000#32)) (ix2 0 l) = collect v74 v84 v119 v120 (nn (l.val + 512)) := by
  pointwise [k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  rw [sitofp_ofNat l.val (by omega), c_512, nn_add]
  rfl

theorem tsrc_block1 (l : Fin 512) : (k0_pay39 (k0_pay38 v74 v84 v118)) (ix2 0 l) = FloatOps.fptosi (F := Ideal) (φ := .f32) 32 (collect v74 v84 v118 v118 (nn (l.val + 512))) := by
  pointwise [k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  rw [sitofp_ofNat l.val (by omega), c_512, nn_add]
  rfl

theorem wsrt_block2 (l : Fin 512) : (k0_pay45 v74 v84 v119 v120) (ix2 0 l) = collect v74 v84 v119 v120 (nn (l.val + 1024)) := by
  pointwise [k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  rw [sitofp_ofNat l.val (by omega), c_1024, nn_add]
  rfl

theorem tsrc_block2 (l : Fin 512) : (k0_pay44 v74 v84 v118) (ix2 0 l) = FloatOps.fptosi (F := Ideal) (φ := .f32) 32 (collect v74 v84 v118 v118 (nn (l.val + 1024))) := by
  pointwise [k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  rw [sitofp_ofNat l.val (by omega), c_1024, nn_add]
  rfl

theorem wsrt_block3 (l : Fin 512) : (k0_pay50 v74 v84 v119 v120) (ix2 0 l) = collect v74 v84 v119 v120 (nn (l.val + 1536)) := by
  pointwise [k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  rw [sitofp_ofNat l.val (by omega), c_1536, nn_add]
  rfl

theorem tsrc_block3 (l : Fin 512) : (k0_pay49 v74 v84 v118) (ix2 0 l) = FloatOps.fptosi (F := Ideal) (φ := .f32) 32 (collect v74 v84 v118 v118 (nn (l.val + 1536))) := by
  pointwise [k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  rw [sitofp_ofNat l.val (by omega), c_1536, nn_add]
  rfl

theorem wsrt_block4 (l : Fin 512) : (k0_pay55 v119 v120 (k0_pay52 v74) (k0_pay53 v84)) (ix2 0 l) = collect v74 v84 v119 v120 (nn (l.val + 2048)) := by
  pointwise [k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  rw [sitofp_ofNat l.val (by omega), c_2048, nn_add]
  rfl

theorem tsrc_block4 (l : Fin 512) : (k0_pay54 v118 (k0_pay52 v74) (k0_pay53 v84)) (ix2 0 l) = FloatOps.fptosi (F := Ideal) (φ := .f32) 32 (collect v74 v84 v118 v118 (nn (l.val + 2048))) := by
  pointwise [k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  rw [sitofp_ofNat l.val (by omega), c_2048, nn_add]
  rfl

theorem wsrt_block5 (l : Fin 512) : (k0_pay61 (k0_pay59 v74 v84 v119 v120)) (ix2 0 l) = collect v74 v84 v119 v120 (nn (l.val + 2560)) := by
  pointwise [k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  rw [sitofp_ofNat l.val (by omega), c_2560, nn_add]
  rfl

theorem tsrc_block5 (l : Fin 512) : (k0_pay60 v74 v84 v118) (ix2 0 l) = FloatOps.fptosi (F := Ideal) (φ := .f32) 32 (collect v74 v84 v118 v118 (nn (l.val + 2560))) := by
  pointwise [k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  rw [sitofp_ofNat l.val (by omega), c_2560, nn_add]
  rfl

theorem wsrt_block6 (l : Fin 512) : (k0_pay66 v74 v84 v119 v120) (ix2 0 l) = collect v74 v84 v119 v120 (nn (l.val + 3072)) := by
  pointwise [k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  rw [sitofp_ofNat l.val (by omega), c_3072, nn_add]
  rfl

theorem tsrc_block6 (l : Fin 512) : (k0_pay65 v74 v84 v118) (ix2 0 l) = FloatOps.fptosi (F := Ideal) (φ := .f32) 32 (collect v74 v84 v118 v118 (nn (l.val + 3072))) := by
  pointwise [k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  rw [sitofp_ofNat l.val (by omega), c_3072, nn_add]
  rfl

theorem wsrt_block7 (l : Fin 512) : (k0_pay71 v84 v119 v120 (k0_pay67 (F := Ideal)) (k0_pay68 v74)) (ix2 0 l) = collect v74 v84 v119 v120 (nn (l.val + 3584)) := by
  pointwise [k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  rw [sitofp_ofNat l.val (by omega), c_3584, nn_add]
  rfl

theorem tsrc_block7 (l : Fin 512) : (k0_pay70 v84 v118 (k0_pay67 (F := Ideal)) (k0_pay68 v74)) (ix2 0 l) = FloatOps.fptosi (F := Ideal) (φ := .f32) 32 (collect v74 v84 v118 v118 (nn (l.val + 3584))) := by
  pointwise [k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  rw [sitofp_ofNat l.val (by omega), c_3584, nn_add]
  rfl

theorem wsrt_block8 (l : Fin 512) : (k0_pay78 (k0_pay75 v74 v84 v119 v120)) (ix2 0 l) = collect v74 v84 v119 v120 (nn (l.val + 4096)) := by
  pointwise [k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  rw [sitofp_ofNat l.val (by omega), c_4096, nn_add]
  rfl

theorem tsrc_block8 (l : Fin 512) : (k0_pay77 (k0_pay76 v74 v84 v118)) (ix2 0 l) = FloatOps.fptosi (F := Ideal) (φ := .f32) 32 (collect v74 v84 v118 v118 (nn (l.val + 4096))) := by
  pointwise [k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  rw [sitofp_ofNat l.val (by omega), c_4096, nn_add]
  rfl

theorem wsrt_block9 (l : Fin 512) : (k0_pay83 v74 v84 v119 v120) (ix2 0 l) = collect v74 v84 v119 v120 (nn (l.val + 4608)) := by
  pointwise [k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  rw [sitofp_ofNat l.val (by omega), c_4608, nn_add]
  rfl

theorem tsrc_block9 (l : Fin 512) : (k0_pay82 v74 v84 v118) (ix2 0 l) = FloatOps.fptosi (F := Ideal) (φ := .f32) 32 (collect v74 v84 v118 v118 (nn (l.val + 4608))) := by
  pointwise [k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  rw [sitofp_ofNat l.val (by omega), c_4608, nn_add]
  rfl

end blocks

/-! ### Reading the pieces -/

section pieces

/-- A row below the first does not reach row 0. -/
theorem sorted_skip {e : EltTy} (k : Nat) (hk : ∀ a, (![k, 0] : Fin 2 → Nat) a + S1x5120.size a ≤ S8x5120.size a) (h0 : 0 < k)
    (w : S1x5120.Idx → Elt Ideal e) (L : List (View.Piece (Elt Ideal) S8x5120 e)) (s : Fin 5120) :
    View.canon (⟨Rect.unit (s := S8x5120) ![k, 0] S1x5120.size hk, w⟩ :: L) (ix2 0 s) = View.canon L (ix2 0 s) := by
  apply View.canon_cons_of_not_mem
  intro h
  have h1 := (Rect.mem_set_unit (inb := hk)).mp h 0
  have : k ≤ 0 := h1.1
  omega

/-- A block of 512 places that holds a function of the place, over pieces that hold it before the block. -/
theorem sorted_step {e : EltTy} (g : ℕ → Elt Ideal e) (k : Nat) (hk : ∀ a, (![0, k] : Fin 2 → Nat) a + S1x512.size a ≤ S8x5120.size a)
    (w : S1x512.Idx → Elt Ideal e) (L : List (View.Piece (Elt Ideal) S8x5120 e)) (s : Fin 5120)
    (hw : ∀ l : Fin 512, w (ix2 0 l) = g (l.val + k)) (hs : s.val < k + 512)
    (hL : s.val < k → View.canon L (ix2 0 s) = g s.val) :
    View.canon (⟨Rect.unit (s := S8x5120) ![0, k] S1x512.size hk, w⟩ :: L) (ix2 0 s) = g s.val := by
  by_cases h : s.val < k
  · refine (View.canon_cons_of_not_mem _ L ?_).trans (hL h)
    intro hm
    have h1 := (Rect.mem_set_unit (inb := hk)).mp hm 1
    have h2 : k ≤ s.val := h1.1
    omega
  · have hl : s.val - k < 512 := by omega
    refine Eq.trans (congrArg _ ?_)
      ((View.canon_cons_emb (Rect.unit (s := S8x5120) ![0, k] S1x512.size hk) w L (ix2 0 ⟨s.val - k, hl⟩ : S1x512.Idx)).trans ((hw ⟨s.val - k, hl⟩).trans
        (congrArg g (Nat.sub_add_cancel (not_lt.mp h)))))
    funext a
    apply Fin.ext
    match a with
    | 0 => exact (by simp [Rect.emb, Rect.unit])
    | 1 => exact (by simp [Rect.emb, Rect.unit]; omega)

/-- Ten blocks that hold a function of the place, read at a place. -/
theorem sorted_read {e : EltTy} (g : ℕ → Elt Ideal e) (w0 w1 w2 w3 w4 w5 w6 w7 w8 w9 : Vec Ideal S1x512 e) (z1 z2 z3 z4 z5 z6 z7 : Vec Ideal S1x5120 e)
    (h0 : ∀ l : Fin 512, w0 (ix2 0 l) = g (l.val + 0)) (h1 : ∀ l : Fin 512, w1 (ix2 0 l) = g (l.val + 512))
    (h2 : ∀ l : Fin 512, w2 (ix2 0 l) = g (l.val + 1024)) (h3 : ∀ l : Fin 512, w3 (ix2 0 l) = g (l.val + 1536))
    (h4 : ∀ l : Fin 512, w4 (ix2 0 l) = g (l.val + 2048)) (h5 : ∀ l : Fin 512, w5 (ix2 0 l) = g (l.val + 2560))
    (h6 : ∀ l : Fin 512, w6 (ix2 0 l) = g (l.val + 3072)) (h7 : ∀ l : Fin 512, w7 (ix2 0 l) = g (l.val + 3584))
    (h8 : ∀ l : Fin 512, w8 (ix2 0 l) = g (l.val + 4096)) (h9 : ∀ l : Fin 512, w9 (ix2 0 l) = g (l.val + 4608)) (s : Fin 5120) :
    View.canon (sortedPieces w0 w1 w2 w3 w4 w5 w6 w7 w8 w9 z1 z2 z3 z4 z5 z6 z7) (ix2 0 s) = g s.val := by
  unfold sortedPieces
  rw [sorted_skip, sorted_skip, sorted_skip, sorted_skip, sorted_skip, sorted_skip, sorted_skip]
  · refine sorted_step g 4608 _ w9 _ s h9 (by omega) fun _ => ?_
    refine sorted_step g 4096 _ w8 _ s h8 (by omega) fun _ => ?_
    refine sorted_step g 3584 _ w7 _ s h7 (by omega) fun _ => ?_
    refine sorted_step g 3072 _ w6 _ s h6 (by omega) fun _ => ?_
    refine sorted_step g 2560 _ w5 _ s h5 (by omega) fun _ => ?_
    refine sorted_step g 2048 _ w4 _ s h4 (by omega) fun _ => ?_
    refine sorted_step g 1536 _ w3 _ s h3 (by omega) fun _ => ?_
    refine sorted_step g 1024 _ w2 _ s h2 (by omega) fun _ => ?_
    refine sorted_step g 512 _ w1 _ s h1 (by omega) fun _ => ?_
    exact sorted_step g 0 _ w0 _ s h0 (by omega) fun h => absurd h (by omega)
  all_goals decide

variable (x0 : Vec Ideal S2048x1024 .f32) (x1 : Vec Ideal S1024x8 .f32)

/-- The list of weights at a place. -/
theorem wsrtOut_row0 (s : Fin 5120) : wsrtOut x0 x1 (ix2 0 s)
    = collect (slot0 x0 x1) (slot1 x0 x1) (k0_pay28 (k0_pay4 x0 x1)) (k0_pay29 (k0_pay7 x0 x1)) (nn s.val) := by
  unfold wsrtOut wsrtPieces
  exact sorted_read (e := .f32) (fun n => collect (slot0 x0 x1) (slot1 x0 x1) (k0_pay28 (k0_pay4 x0 x1)) (k0_pay29 (k0_pay7 x0 x1)) (nn n))
    _ _ _ _ _ _ _ _ _ _ _ _ _ _ _ _ _
    (fun l => wsrt_block0 _ _ _ _ l)
    (fun l => wsrt_block1 _ _ _ _ l)
    (fun l => wsrt_block2 _ _ _ _ l)
    (fun l => wsrt_block3 _ _ _ _ l)
    (fun l => wsrt_block4 _ _ _ _ l)
    (fun l => wsrt_block5 _ _ _ _ l)
    (fun l => wsrt_block6 _ _ _ _ l)
    (fun l => wsrt_block7 _ _ _ _ l)
    (fun l => wsrt_block8 _ _ _ _ l)
    (fun l => wsrt_block9 _ _ _ _ l) s

/-- The list of tokens at a place. -/
theorem tsrcOut_row0 (s : Fin 5120) : tsrcOut x0 x1 (ix2 0 s)
    = FloatOps.fptosi (F := Ideal) (φ := .f32) 32 (collect (slot0 x0 x1) (slot1 x0 x1) (k0_pay27 (F := Ideal)) (k0_pay27 (F := Ideal)) (nn s.val)) := by
  unfold tsrcOut tsrcPieces
  exact sorted_read (e := .i32) (fun n => FloatOps.fptosi (F := Ideal) (φ := .f32) 32
      (collect (slot0 x0 x1) (slot1 x0 x1) (k0_pay27 (F := Ideal)) (k0_pay27 (F := Ideal)) (nn n)))
    _ _ _ _ _ _ _ _ _ _ _ _ _ _ _ _ _
    (fun l => tsrc_block0 _ _ _ l)
    (fun l => tsrc_block1 _ _ _ l)
    (fun l => tsrc_block2 _ _ _ l)
    (fun l => tsrc_block3 _ _ _ l)
    (fun l => tsrc_block4 _ _ _ l)
    (fun l => tsrc_block5 _ _ _ l)
    (fun l => tsrc_block6 _ _ _ l)
    (fun l => tsrc_block7 _ _ _ l)
    (fun l => tsrc_block8 _ _ _ l)
    (fun l => tsrc_block9 _ _ _ l) s

end pieces

/-! ### At the places of a token -/

section at_places

variable (a b : Fin 2048 → Fin 8) (v74 v84 : FVec Ideal S2048 .f32) (u w : FVec Ideal S1x2048 .f32)
  (h74 : ∀ t, v74 (Idealize.ShloMosaic.ix1 t) = nn (place0 a b t)) (h84 : ∀ t, v84 (Idealize.ShloMosaic.ix1 t) = nn (place1 a b t))
include h74 h84

theorem collect_eq (s : ℕ) : collect v74 v84 u w (nn s)
    = ∑ t, (if place0 a b t = s then u (ix2 0 t) else 0) + ∑ t, if place1 a b t = s then w (ix2 0 t) else 0 := by
  unfold collect
  have e : ∀ (n : ℕ) (z : EReal), z * (FloatOps.sitofp .f32 (BitVec.setWidth 32 (BitVec.ofBool (decide (nn n = nn s)))) : Ideal .f32)
      = if n = s then z else 0 := by
    intro n z
    rw [flag_nn]
    by_cases h : n = s
    · rw [if_pos (nn_inj.mpr h), if_pos h, nn_one, mul_one]
    · rw [if_neg fun hc => h (nn_inj.mp hc), if_neg h, nn_zero, mul_zero]
  exact congrArg₂ (· + ·) (Finset.sum_congr rfl fun t _ => by rw [h74, e]) (Finset.sum_congr rfl fun t _ => by rw [h84, e])

/-- A first place collects the first row's entry of its token. -/
theorem collect_place0 (t : Fin 2048) : collect v74 v84 u w (nn (place0 a b t)) = u (ix2 0 t) := by
  rw [collect_eq a b v74 v84 u w h74 h84, Finset.sum_eq_single t, if_pos rfl, Finset.sum_eq_zero, add_zero]
  · intro x _
    rw [if_neg fun h => place_ne a b t x h.symm]
  · intro x _ hx
    rw [if_neg fun h => hx (place0_inj a b h)]
  · intro h; exact absurd (Finset.mem_univ t) h

/-- A second place collects the second row's entry of its token. -/
theorem collect_place1 (t : Fin 2048) : collect v74 v84 u w (nn (place1 a b t)) = w (ix2 0 t) := by
  rw [collect_eq a b v74 v84 u w h74 h84, Finset.sum_eq_zero, zero_add, Finset.sum_eq_single t, if_pos rfl]
  · intro x _ hx
    rw [if_neg fun h => hx (place1_inj a b h)]
  · intro h; exact absurd (Finset.mem_univ t) h
  · intro x _
    rw [if_neg fun h => place_ne a b x t h]

end at_places

/-! ### The host's readings -/

/-- The list of tokens as the host reads it. -/
theorem rowsOf_apply (z : S8x5120.Idx → BitVec 32) (s : Fin 5120) : rowsOf z (Idealize.ShloMosaic.ix1 s) = z (ix2 0 s) := by
  unfold rowsOf
  pointwise

/-- The list of weights as the host reads it. -/
theorem wtsOf_apply (z : S8x5120.Idx → EReal) (i : Fin 40) (l : Fin 128) (s : Fin 5120) (hs : s.val = 128 * i.val + l.val) :
    wtsOf (F := Ideal) z (ix3 i 0 l) = z (ix2 0 s) := by
  unfold wtsOf
  pointwise
  exact congrArg z (congrArg (ix2 0) (Fin.ext (by show i.val * 128 + l.val = s.val; omega)))

/-- The first places as the host reads them. -/
theorem posOf0_apply (z : S8x2048.Idx → BitVec 32) (t : Fin 2048) : posOf0 z (Idealize.ShloMosaic.ix1 t) = z (ix2 0 t) := by
  unfold posOf0
  pointwise

/-- The second places as the host reads them. -/
theorem posOf1_apply (z : S8x2048.Idx → BitVec 32) (t : Fin 2048) : posOf1 z (Idealize.ShloMosaic.ix1 t) = z (ix2 1 t) := by
  unfold posOf1
  pointwise

end Cert.KernelIdeal.Run

end
-- ==== Proof.KernelIdeal.Lists.lean ====
module

public import proofs.«01_k».proof.Proof.KernelIdeal.Route
public import proofs.«01_k».proof.Proof.KernelIdeal.Sorted
public import proofs.«01_k».proof.Proof.KernelIdeal.Bound

@[expose] public section

set_option maxRecDepth 16384

noncomputable section

namespace Cert.KernelIdeal.Run

open Idealize.ShloMosaic Cert.KernelIdeal Cert.KernelIdeal.Gen Idealize.ShloMosaic.Pointwise

/-! ## What the routing call leaves, at the places of a token -/

/-- A row not asked for does not reach the row read. -/
theorem pos_skip (k : Nat) (hk : ∀ a, (![k, 0] : Fin 2 → Nat) a + S1x2048.size a ≤ S8x2048.size a) (q : Fin 8) (h0 : q.val < k)
    (w : S1x2048.Idx → Elt Ideal .i32) (L : List (View.Piece (Elt Ideal) S8x2048 .i32)) (t : Fin 2048) :
    View.canon (⟨Rect.unit (s := S8x2048) ![k, 0] S1x2048.size hk, w⟩ :: L) (ix2 q t) = View.canon L (ix2 q t) := by
  apply View.canon_cons_of_not_mem
  intro h
  have h1 := (Rect.mem_set_unit (inb := hk)).mp h 0
  have : k ≤ q.val := h1.1
  omega

/-- The row asked for, laid last, is what is read. -/
theorem pos_read (k : Nat) (hk : ∀ a, (![k, 0] : Fin 2 → Nat) a + S1x2048.size a ≤ S8x2048.size a) (q : Fin 8) (h0 : q.val = k)
    (w : S1x2048.Idx → Elt Ideal .i32) (L : List (View.Piece (Elt Ideal) S8x2048 .i32)) (t : Fin 2048) :
    View.canon (⟨Rect.unit (s := S8x2048) ![k, 0] S1x2048.size hk, w⟩ :: L) (ix2 q t) = w (ix2 0 t) := by
  refine Eq.trans (congrArg _ ?_) (View.canon_cons_emb (Rect.unit (s := S8x2048) ![k, 0] S1x2048.size hk) w L (ix2 0 t : S1x2048.Idx))
  funext a
  apply Fin.ext
  match a with
  | 0 => exact (by simp [Rect.emb, Rect.unit, h0])
  | 1 => exact (by simp [Rect.emb, Rect.unit])

variable (x0 : Vec Ideal S2048x1024 .f32) (x1 : Vec Ideal S1024x8 .f32)

/-- The first places are the first row. -/
theorem posOut_row0 (t : Fin 2048) : posOut x0 x1 (ix2 0 t) = k0_pay18 (k0_pay8 x0 x1) (k0_pay10 x0 x1) (ix2 0 t) := by
  unfold posOut posPieces
  generalize k0_pay18 (k0_pay8 x0 x1) (k0_pay10 x0 x1) = G
  generalize k0_pay20 (k0_pay19 (k0_pay8 x0 x1) (k0_pay9 x0 x1) (k0_pay10 x0 x1)) = H
  rw [pos_skip 7 _ 0 (by decide), pos_skip 6 _ 0 (by decide), pos_skip 5 _ 0 (by decide), pos_skip 4 _ 0 (by decide),
    pos_skip 3 _ 0 (by decide), pos_skip 2 _ 0 (by decide), pos_skip 1 _ 0 (by decide), pos_read 0 _ 0 rfl]

/-- The second places are the second row. -/
theorem posOut_row1 (t : Fin 2048) :
    posOut x0 x1 (ix2 1 t) = k0_pay20 (k0_pay19 (k0_pay8 x0 x1) (k0_pay9 x0 x1) (k0_pay10 x0 x1)) (ix2 0 t) := by
  unfold posOut posPieces
  generalize k0_pay18 (k0_pay8 x0 x1) (k0_pay10 x0 x1) = G
  generalize k0_pay20 (k0_pay19 (k0_pay8 x0 x1) (k0_pay9 x0 x1) (k0_pay10 x0 x1)) = H
  rw [pos_skip 7 _ 1 (by decide), pos_skip 6 _ 1 (by decide), pos_skip 5 _ 1 (by decide), pos_skip 4 _ 1 (by decide),
    pos_skip 3 _ 1 (by decide), pos_skip 2 _ 1 (by decide), pos_read 1 _ 1 rfl]

variable (a b : Fin 2048 → Fin 8) (h : ∀ t, IsTop2 (fun e => k0_pay2 x0 x1 (ix2 t e)) (a t) (b t))
  (hp : ∀ t e, (((-(1 : ℝ) : ℝ) : EReal)) < k0_pay2 x0 x1 (ix2 t e))
include h hp

/-- The first places. -/
theorem slot0_apply (t : Fin 2048) : slot0 x0 x1 (Idealize.ShloMosaic.ix1 t) = nn (place0 a b t) :=
  pay16_apply a b _ _ (pay8_apply x0 x1 a b h) (pay10_apply x0 x1 a b h hp) t

/-- The second places. -/
theorem slot1_apply (t : Fin 2048) : slot1 x0 x1 (Idealize.ShloMosaic.ix1 t) = nn (place1 a b t) :=
  pay17_apply a b _ _ _ (pay8_apply x0 x1 a b h) (pay9_apply x0 x1 a b h hp) (pay10_apply x0 x1 a b h hp) t

/-- The first place of a token as the host reads it. -/
theorem pos0_apply (t : Fin 2048) : posOf0 (posOut x0 x1) (Idealize.ShloMosaic.ix1 t) = BitVec.ofNat 32 (place0 a b t) := by
  have hs := slot0_apply x0 x1 a b h hp t
  have hl := place0_lt_5120 a b t
  rw [posOf0_apply, posOut_row0]
  pointwise [k0_pay18]
  refine (congrArg (FloatOps.fptosi (F := Ideal) (φ := .f32) 32) hs).trans (fptosi_nn _ (by omega))

/-- The second place of a token as the host reads it. -/
theorem pos1_apply (t : Fin 2048) : posOf1 (posOut x0 x1) (Idealize.ShloMosaic.ix1 t) = BitVec.ofNat 32 (place1 a b t) := by
  have hs := slot1_apply x0 x1 a b h hp t
  have hl := place1_lt_5120 a b t
  rw [posOf1_apply, posOut_row1]
  pointwise [k0_pay20, k0_pay19]
  refine (congrArg (FloatOps.fptosi (F := Ideal) (φ := .f32) 32) hs).trans (fptosi_nn _ (by omega))

/-- The token listed at its first place is the token. -/
theorem row0_apply (t : Fin 2048) (s : Fin 5120) (hs : s.val = place0 a b t) :
    rowsOf (tsrcOut x0 x1) (Idealize.ShloMosaic.ix1 s) = BitVec.ofNat 32 t.val := by
  rw [rowsOf_apply, tsrcOut_row0, hs, collect_place0 a b _ _ _ _ (slot0_apply x0 x1 a b h hp) (slot1_apply x0 x1 a b h hp) t]
  pointwise [k0_pay27]
  rw [sitofp_ofNat _ (by omega), fptosi_nn _ (by omega)]

/-- The token listed at its second place is the token. -/
theorem row1_apply (t : Fin 2048) (s : Fin 5120) (hs : s.val = place1 a b t) :
    rowsOf (tsrcOut x0 x1) (Idealize.ShloMosaic.ix1 s) = BitVec.ofNat 32 t.val := by
  rw [rowsOf_apply, tsrcOut_row0, hs, collect_place1 a b _ _ _ _ (slot0_apply x0 x1 a b h hp) (slot1_apply x0 x1 a b h hp) t]
  pointwise [k0_pay27]
  rw [sitofp_ofNat _ (by omega), fptosi_nn _ (by omega)]

/-- The weight listed at a token's first place is its first probability. -/
theorem wt0_apply (t : Fin 2048) (i : Fin 40) (l : Fin 128) (hs : 128 * i.val + l.val = place0 a b t) :
    wtsOf (F := Ideal) (wsrtOut x0 x1) (ix3 i 0 l) = k0_pay2 x0 x1 (ix2 t (a t)) := by
  obtain ⟨s, e⟩ : ∃ s : Fin 5120, s.val = 128 * i.val + l.val := ⟨⟨128 * i.val + l.val, by omega⟩, rfl⟩
  rw [wtsOf_apply _ i l s e, wsrtOut_row0, e, hs,
    collect_place0 a b _ _ _ _ (slot0_apply x0 x1 a b h hp) (slot1_apply x0 x1 a b h hp) t]
  pointwise [k0_pay28]
  exact pay4_apply x0 x1 a b h t

/-- The weight listed at a token's second place is its second probability. -/
theorem wt1_apply (t : Fin 2048) (i : Fin 40) (l : Fin 128) (hs : 128 * i.val + l.val = place1 a b t) :
    wtsOf (F := Ideal) (wsrtOut x0 x1) (ix3 i 0 l) = k0_pay2 x0 x1 (ix2 t (b t)) := by
  obtain ⟨s, e⟩ : ∃ s : Fin 5120, s.val = 128 * i.val + l.val := ⟨⟨128 * i.val + l.val, by omega⟩, rfl⟩
  rw [wtsOf_apply _ i l s e, wsrtOut_row0, e, hs,
    collect_place1 a b _ _ _ _ (slot0_apply x0 x1 a b h hp) (slot1_apply x0 x1 a b h hp) t]
  pointwise [k0_pay29]
  exact pay7_apply x0 x1 a b h hp t

/-- The table's word of a tile is the expert whose stretch holds a place of the tile. -/
theorem tbl_apply (e : Fin 8) (i : Fin 40) (s : ℕ) (hi : s / 128 = i.val) (h1 : off a b e ≤ s) (h2 : s < off a b e + pad a b e) :
    tblOf (tmapOut x0 x1) (Idealize.ShloMosaic.ix1 i) = BitVec.ofNat 32 e.val := by
  have h99 : k0_pay99 (F := Ideal) (ix2 0 (i.castLE (by decide))) = nn (s / 128 * 128) := by
    pointwise [k0_pay99]
    rw [c_128, hi]
    exact (congrArg (· * nn 128) (sitofp_ofNat i.val (by omega))).trans (nn_mul _ _)
  rw [tblOf_tmapOut, tileWord_ideal, h99]
  have hb : ∀ x : Fin 8, (FloatOps.cmpf (F := Ideal) (φ := .f32) .oge (nn (s / 128 * 128)) (k0_pay13 (k0_pay10 x0 x1) (ix2 0 x))).toNat
      = if off a b x + pad a b x ≤ s / 128 * 128 then 1 else 0 := by
    intro x
    rw [pay13_apply a b _ (pay10_apply x0 x1 a b h hp)]
    refine (ofBool_nn (nn (off a b x + pad a b x) ≤ nn (s / 128 * 128))).trans (if_congr nn_le rfl rfl)
  rw [Finset.sum_congr rfl fun x _ => hb x, tile_expert a b h1 h2]
  congr 1
  omega

end Cert.KernelIdeal.Run

end
-- ==== Proof.KernelIdeal.Take.lean ====
module

public import proofs.«01_k».proof.Proof.KernelIdeal.Host
public import Idealize.ShloMosaic.Lib.Pointwise
public import Idealize.ShloMosaic.Lib.Routing.Ops
public import Idealize.ShloMosaic.Lib.Routing.OpsPair

@[expose] public section

set_option maxRecDepth 16384

noncomputable section

namespace Cert.KernelIdeal.Run

open Idealize.ShloMosaic Cert.KernelIdeal Cert.KernelIdeal.Gen Idealize.ShloMosaic.Pointwise

/-! ## The host's row gathers, at a row number that lies in the table -/

/-- A row number in the table lies between zero and the last row. -/
theorem in_table (r n : ℕ) (h : r ≤ n) (hn : n < 2 ^ 31) :
    IntOp.andi (IntOp.cmpi .sge (BitVec.ofNat 32 r) 0#32) (IntOp.cmpi .sle (BitVec.ofNat 32 r) (BitVec.ofNat 32 n)) = 1#1 := by
  have e : ∀ k, k < 2 ^ 31 → (BitVec.ofNat 32 k).toInt = k := fun k hk => by
    rw [BitVec.toInt_eq_toNat_of_lt (by rw [BitVec.toNat_ofNat]; omega), BitVec.toNat_ofNat, Nat.mod_eq_of_lt (by omega)]
  have h1 : IntOp.cmpi .sge (BitVec.ofNat 32 r) 0#32 = 1#1 := by
    show BitVec.ofBool (BitVec.sle 0#32 (BitVec.ofNat 32 r)) = 1#1
    rw [show BitVec.sle 0#32 (BitVec.ofNat 32 r) = true from by
      unfold BitVec.sle
      rw [e r (by omega)]
      exact decide_eq_true (by show (0 : Int) ≤ r; omega)]
    rfl
  have h2 : IntOp.cmpi .sle (BitVec.ofNat 32 r) (BitVec.ofNat 32 n) = 1#1 := by
    show BitVec.ofBool (BitVec.sle (BitVec.ofNat 32 r) (BitVec.ofNat 32 n)) = 1#1
    rw [show BitVec.sle (BitVec.ofNat 32 r) (BitVec.ofNat 32 n) = true from by
      unfold BitVec.sle
      rw [e r (by omega), e n hn]
      exact decide_eq_true (by omega)]
    rfl
  rw [h1, h2]
  rfl

/-- The row number of a list that lies in the table is taken as it is. -/
theorem takeXIdx_apply (i : S5120.Idx → BitVec 32) (s : Fin 5120) (r : Fin 2048) (h : i (Idealize.ShloMosaic.ix1 s) = BitVec.ofNat 32 r.val) :
    takeXIdx i (Idealize.ShloMosaic.ix1 s) = BitVec.ofNat 32 r.val := by
  pointwise [takeXIdx]
  rw [Routing.wrap_of_lt _ _ (by rw [h, BitVec.toNat_ofNat]; omega), h]

/-- A row number in the table passes the test. -/
theorem takeXMask_apply (j : S5120x1.Idx → BitVec 32) (s : Fin 5120) (r : Fin 2048) (h : ∀ x, j (ix2 s x) = BitVec.ofNat 32 r.val) :
    takeXMask j (Idealize.ShloMosaic.ix1 s) = 1#1 := by
  pointwise [takeXMask]
  refine (Finset.fold_congr (g := fun _ => 1#1) fun x _ => ?_).trans (by decide)
  rw [h x]
  exact in_table r.val 2047 (by omega) (by omega)

/-- The rows of a table gathered at one column of row numbers. -/
theorem gatherX_apply (x : S2048x1024.Idx → EReal) (J : S5120x1.Idx → BitVec 32) (s : Fin 5120) (d : Fin 1024) (r : Fin 2048)
    (h : ∀ y, J (ix2 s y) = BitVec.ofNat 32 r.val) : Host.gather gather_S2048x1024_S5120x1_S5120x1024_1_0_n_n_0_1_11024 x J (ix2 s d) = x (ix2 r d) :=
  Routing.gather_row (nb := 2048) (B := 1024) (n := 5120) gather_S2048x1024_S5120x1_S5120x1024_1_0_n_n_0_1_11024 rfl rfl rfl rfl rfl x J s d r (h 0) (by norm_num)

/-- The row taken is the table's. -/
theorem takeX_apply (x : S2048x1024.Idx → EReal) (i : S5120.Idx → BitVec 32) (s : Fin 5120) (d : Fin 1024) (r : Fin 2048)
    (h : i (Idealize.ShloMosaic.ix1 s) = BitVec.ofNat 32 r.val) : takeX (F := Ideal) x i (ix2 s d) = x (ix2 r d) := by
  have hi : ∀ y : Fin 1, broadcastInDim S5120x1 ![0] bcast_S5120_S5120x1_0 (takeXIdx i) (ix2 s y) = BitVec.ofNat 32 r.val := by
    intro y
    pointwise
    exact takeXIdx_apply i s r h
  have hg := gatherX_apply x _ s d r hi
  pointwise [takeX]
  rw [takeXMask_apply _ s r hi]
  exact hg

/-- The row number of a list that lies in the table is taken as it is. -/
theorem takeYIdx_apply (i : S2048.Idx → BitVec 32) (s : Fin 2048) (r : Fin 5120) (h : i (Idealize.ShloMosaic.ix1 s) = BitVec.ofNat 32 r.val) :
    takeYIdx i (Idealize.ShloMosaic.ix1 s) = BitVec.ofNat 32 r.val := by
  pointwise [takeYIdx]
  rw [Routing.wrap_of_lt _ _ (by rw [h, BitVec.toNat_ofNat]; omega), h]

/-- A row number in the table passes the test. -/
theorem takeYMask_apply (j : S2048x1.Idx → BitVec 32) (s : Fin 2048) (r : Fin 5120) (h : ∀ x, j (ix2 s x) = BitVec.ofNat 32 r.val) :
    takeYMask j (Idealize.ShloMosaic.ix1 s) = 1#1 := by
  pointwise [takeYMask]
  refine (Finset.fold_congr (g := fun _ => 1#1) fun x _ => ?_).trans (by decide)
  rw [h x]
  exact in_table r.val 5119 (by omega) (by omega)

/-- The rows of a table gathered at one column of row numbers. -/
theorem gatherY_apply (x : S5120x1024.Idx → EReal) (J : S2048x1.Idx → BitVec 32) (s : Fin 2048) (d : Fin 1024) (r : Fin 5120)
    (h : ∀ y, J (ix2 s y) = BitVec.ofNat 32 r.val) : Host.gather gather_S5120x1024_S2048x1_S2048x1024_1_0_n_n_0_1_11024 x J (ix2 s d) = x (ix2 r d) :=
  Routing.gather_row (nb := 5120) (B := 1024) (n := 2048) gather_S5120x1024_S2048x1_S2048x1024_1_0_n_n_0_1_11024 rfl rfl rfl rfl rfl x J s d r (h 0) (by norm_num)

/-- The row taken is the table's. -/
theorem takeY_apply (x : S5120x1024.Idx → EReal) (i : S2048.Idx → BitVec 32) (s : Fin 2048) (d : Fin 1024) (r : Fin 5120)
    (h : i (Idealize.ShloMosaic.ix1 s) = BitVec.ofNat 32 r.val) : takeY (F := Ideal) x i (ix2 s d) = x (ix2 r d) := by
  have hi : ∀ y : Fin 1, broadcastInDim S2048x1 ![0] bcast_S2048_S2048x1_0 (takeYIdx i) (ix2 s y) = BitVec.ofNat 32 r.val := by
    intro y
    pointwise
    exact takeYIdx_apply i s r h
  have hg := gatherY_apply x _ s d r hi
  pointwise [takeY]
  rw [takeYMask_apply _ s r hi]
  exact hg

end Cert.KernelIdeal.Run

end
-- ==== Proof.KernelIdeal.GemmValue.lean ====
module

public import proofs.«01_k».proof.Proof.KernelIdeal.Launch
public import proofs.«01_k».proof.Proof.KernelIdeal.Words
public import proofs.«01_k».proof.Proof.KernelIdeal.Route
public import Idealize.ShloMosaic.Lib.Pointwise
public import Idealize.ShloMosaic.Lib.ValueIdx

@[expose] public section

set_option maxRecDepth 16384

noncomputable section

namespace Cert.KernelIdeal.Run

open Cert.KernelIdeal Cert.KernelIdeal.Gen
open Idealize.ShloMosaic Idealize.ShloMosaic.TcCoe Idealize.ShloMosaic.Pointwise
open Idealize.SL Idealize.SL.Sem
open Idealize.ShloMosaic.Pipeline (Dat Cfg Window)

/-! ## What the expert call leaves at one place of the sorted list -/

/-- The expert's output at one row of features, before its weight: the gated hidden values through the down projection. -/
def ffn (x : Fin 1024 → EReal) (w1 w3 : Fin 1024 → Fin 2048 → EReal) (w2 : Fin 2048 → EReal) : EReal :=
  ∑ f, ((∑ k, x k * w1 k f) * Ideal.logistic (∑ k, x k * w1 k f) * ∑ k, x k * w3 k f) * w2 f

/-- The body's payload at a row: the row's weight times its expert's output. -/
theorem pay_apply (v0 : Vec Ideal S128x1024 .f32) (v2 v5 : Vec Ideal S1x1024x2048 .f32) (v11 : Vec Ideal S1x2048x1024 .f32)
    (v19 : Vec Ideal S1x1x128 .f32) (r : Fin 128) (d : Fin 1024) :
    k1_pay1 v0 v2 v5 v11 v19 (ix2 r d) = v19 (ix3 0 0 r)
      * ffn (fun k => v0 (ix2 r k)) (fun k f => v2 (ix3 0 k f)) (fun k f => v5 (ix3 0 k f)) (fun f => v11 (ix3 0 f d)) := by
  pointwise [k1_pay1]
  unfold ffn
  refine (Finset.sum_eq_single r ?_ ?_).trans ?_
  · intro x _ hx
    rw [if_neg ?_, zero_mul]
    rw [sitofp_ofNat _ (by omega), sitofp_ofNat _ (by omega), nn_inj]
    exact fun h => hx (Fin.ext h.symm)
  · intro h; exact absurd (Finset.mem_univ r) h
  · rw [if_pos rfl]

variable (a : (pcfg1 (F := Ideal)).Adm) (W : Dev nD → Valuation τ sig (Elt Ideal))

theorem tr0_apply : ∀ t : Fin grid1.N, cc1_transform_0 (grid1.coords t) 0 = t.val := by decide +kernel
theorem tr4_apply : ∀ t : Fin grid1.N, cc1_transform_4 (grid1.coords t) 0 = t.val := by decide +kernel
theorem tr5_apply : ∀ t : Fin grid1.N, cc1_transform_5 (grid1.coords t) 0 = t.val := by decide +kernel
theorem off1_apply : ∀ t : Fin grid1.N, k1_off1 (grid1.coords t) 0 = t.val := by decide +kernel
theorem flush5_all : ∀ t : Fin grid1.N, Window.flushOf grid1 true cc1_transform_5 t = true := by decide +kernel

/-- The result's block is written back at every point. -/
theorem flush1_5 (t : Fin (cfg1 a).N) : ((cfg1 a).win 5).flush t = true := flush5_all t

/-- The table entry a point reads is the point's own. -/
theorem word_idx (t : Fin grid1.N) (i : Fin 40) (ht : t.val = i.val) (J : S40.Idx) (hJ : (J 0).val = k1_off1 (grid1.coords t) 0 + 0) :
    J = Idealize.ShloMosaic.ix1 i := by
  funext x
  apply Fin.ext
  match x with
  | 0 => exact hJ.trans ((off1_apply t).trans ht)

/-- Window 1's block index at a point is the point's table entry. -/
theorem tr1_apply (t : Fin grid1.N) (i : Fin 40) (ht : t.val = i.val) (e : Fin 8) (he : (a.1 0 : S40.Idx → BitVec 32) (Idealize.ShloMosaic.ix1 i) = BitVec.ofNat 32 e.val) :
    cc1_transform_1 k1_off1_inb numel1_S1 a.1 (grid1.coords t) 0 = e.val := by
  refine Eq.trans (b := ((a.1 0 : S40.Idx → BitVec 32) (Idealize.ShloMosaic.ix1 i)).toNat) (congrArg (fun J => ((a.1 0 : S40.Idx → BitVec 32) J).toNat) (word_idx t i ht _ ?_)) ?_
  · rfl
  · rw [he, BitVec.toNat_ofNat]; omega

/-- Window 2's block index at a point is the point's table entry. -/
theorem tr2_apply (t : Fin grid1.N) (i : Fin 40) (ht : t.val = i.val) (e : Fin 8) (he : (a.1 0 : S40.Idx → BitVec 32) (Idealize.ShloMosaic.ix1 i) = BitVec.ofNat 32 e.val) :
    cc1_transform_2 k1_off1_inb numel1_S1 a.1 (grid1.coords t) 0 = e.val := by
  refine Eq.trans (b := ((a.1 0 : S40.Idx → BitVec 32) (Idealize.ShloMosaic.ix1 i)).toNat) (congrArg (fun J => ((a.1 0 : S40.Idx → BitVec 32) J).toNat) (word_idx t i ht _ ?_)) ?_
  · rfl
  · rw [he, BitVec.toNat_ofNat]; omega

/-- Window 3's block index at a point is the point's table entry. -/
theorem tr3_apply (t : Fin grid1.N) (i : Fin 40) (ht : t.val = i.val) (e : Fin 8) (he : (a.1 0 : S40.Idx → BitVec 32) (Idealize.ShloMosaic.ix1 i) = BitVec.ofNat 32 e.val) :
    cc1_transform_3 k1_off1_inb numel1_S1 a.1 (grid1.coords t) 0 = e.val := by
  refine Eq.trans (b := ((a.1 0 : S40.Idx → BitVec 32) (Idealize.ShloMosaic.ix1 i)).toNat) (congrArg (fun J => ((a.1 0 : S40.Idx → BitVec 32) J).toNat) (word_idx t i ht _ ?_)) ?_
  · rfl
  · rw [he, BitVec.toNat_ofNat]; omega

/-- Places of a two-dimensional array are equal when their coordinates are. -/
theorem ext2 {n : Fin 2 → ℕ} (p q : (⟨2, n⟩ : Shape).Idx) (h0 : (p 0).val = (q 0).val) (h1 : (p 1).val = (q 1).val) : p = q :=
  funext fun x => Fin.ext <| match x with | 0 => h0 | 1 => h1

/-- Places of a three-dimensional array are equal when their coordinates are. -/
theorem ext3 {n : Fin 3 → ℕ} (p q : (⟨3, n⟩ : Shape).Idx) (h0 : (p 0).val = (q 0).val) (h1 : (p 1).val = (q 1).val)
    (h2 : (p 2).val = (q 2).val) : p = q :=
  funext fun x => Fin.ext <| match x with | 0 => h0 | 1 => h1 | 2 => h2

theorem read1_0 (c : Dev nD) (t : Fin (cfg1 a).N) (y : (((cfg1 a).win 0).xblock ((cfg1 a).grid.coords t)).Idx) :
    iblk1 a W c 0 t y = (W c (Proc.devRef .tc main_v9) : S5120x1024.Idx → EReal) ((((cfg1 a).win 0).blk t).view.emb y) := by
  unfold iblk1
  rw [View.read_apply]
  rfl
theorem read1_1 (c : Dev nD) (t : Fin (cfg1 a).N) (y : (((cfg1 a).win 1).xblock ((cfg1 a).grid.coords t)).Idx) :
    iblk1 a W c 1 t y = (W c (Proc.devRef .tc main_arg2) : S8x1024x2048.Idx → EReal) ((((cfg1 a).win 1).blk t).view.emb y) := by
  unfold iblk1
  rw [View.read_apply]
  rfl
theorem read1_2 (c : Dev nD) (t : Fin (cfg1 a).N) (y : (((cfg1 a).win 2).xblock ((cfg1 a).grid.coords t)).Idx) :
    iblk1 a W c 2 t y = (W c (Proc.devRef .tc main_arg3) : S8x1024x2048.Idx → EReal) ((((cfg1 a).win 2).blk t).view.emb y) := by
  unfold iblk1
  rw [View.read_apply]
  rfl
theorem read1_3 (c : Dev nD) (t : Fin (cfg1 a).N) (y : (((cfg1 a).win 3).xblock ((cfg1 a).grid.coords t)).Idx) :
    iblk1 a W c 3 t y = (W c (Proc.devRef .tc main_arg4) : S8x2048x1024.Idx → EReal) ((((cfg1 a).win 3).blk t).view.emb y) := by
  unfold iblk1
  rw [View.read_apply]
  rfl
theorem read1_4 (c : Dev nD) (t : Fin (cfg1 a).N) (y : (((cfg1 a).win 4).xblock ((cfg1 a).grid.coords t)).Idx) :
    iblk1 a W c 4 t y = (W c (Proc.devRef .tc main_v8) : S40x1x128.Idx → EReal) ((((cfg1 a).win 4).blk t).view.emb y) := by
  unfold iblk1
  rw [View.read_apply]
  rfl

/-- A block of sorted rows. -/
theorem blk1_0 (c : Dev nD) (t : Fin (cfg1 a).N) (i : Fin 40) (ht : t.val = i.val) (r : Fin 128) (k : Fin 1024) (s : Fin 5120)
    (hs : s.val = i.val * 128 + r.val) :
    (iblk1 a W c 0 t : S128x1024.Idx → EReal) (ix2 r k) = (W c (Proc.devRef .tc main_v9) : S5120x1024.Idx → EReal) (ix2 s k) := by
  refine (read1_0 a W c t (ix2 r k : S128x1024.Idx)).trans (congrArg (W c (Proc.devRef .tc main_v9) : S5120x1024.Idx → EReal) ?_)
  refine ext2 (n := ![5120, 1024]) _ _ ?_ ?_
  · exact (Window.rect_emb_val ((cfg1 a).win 0) t (ix2 r k : S128x1024.Idx) (0 : Fin 2)).trans
      ((congrArg (· * 128 + r.val) ((tr0_apply t).trans ht)).trans hs.symm)
  · exact (Window.rect_emb_val ((cfg1 a).win 0) t (ix2 r k : S128x1024.Idx) (1 : Fin 2)).trans (show 0 * 1024 + k.val = k.val by omega)

/-- A block of an expert's weights. -/
theorem blk1_1 (c : Dev nD) (t : Fin (cfg1 a).N) (i : Fin 40) (ht : t.val = i.val) (e : Fin 8)
    (he : (a.1 0 : S40.Idx → BitVec 32) (Idealize.ShloMosaic.ix1 i) = BitVec.ofNat 32 e.val) (k : Fin 1024) (f : Fin 2048) :
    (iblk1 a W c 1 t : S1x1024x2048.Idx → EReal) (ix3 0 k f) = (W c (Proc.devRef .tc main_arg2) : S8x1024x2048.Idx → EReal) (ix3 e k f) := by
  refine (read1_1 a W c t (ix3 0 k f : S1x1024x2048.Idx)).trans (congrArg (W c (Proc.devRef .tc main_arg2) : S8x1024x2048.Idx → EReal) ?_)
  refine ext3 (n := ![8, 1024, 2048]) _ _ ?_ ?_ ?_
  · exact (Window.rect_emb_val ((cfg1 a).win 1) t (ix3 0 k f : S1x1024x2048.Idx) (0 : Fin 3)).trans
      ((congrArg (· * 1 + 0) (tr1_apply a t i ht e he)).trans (show e.val * 1 + 0 = e.val by omega))
  · exact (Window.rect_emb_val ((cfg1 a).win 1) t (ix3 0 k f : S1x1024x2048.Idx) (1 : Fin 3)).trans (show 0 * 1024 + k.val = k.val by omega)
  · exact (Window.rect_emb_val ((cfg1 a).win 1) t (ix3 0 k f : S1x1024x2048.Idx) (2 : Fin 3)).trans (show 0 * 2048 + f.val = f.val by omega)

/-- A block of an expert's weights. -/
theorem blk1_2 (c : Dev nD) (t : Fin (cfg1 a).N) (i : Fin 40) (ht : t.val = i.val) (e : Fin 8)
    (he : (a.1 0 : S40.Idx → BitVec 32) (Idealize.ShloMosaic.ix1 i) = BitVec.ofNat 32 e.val) (k : Fin 1024) (f : Fin 2048) :
    (iblk1 a W c 2 t : S1x1024x2048.Idx → EReal) (ix3 0 k f) = (W c (Proc.devRef .tc main_arg3) : S8x1024x2048.Idx → EReal) (ix3 e k f) := by
  refine (read1_2 a W c t (ix3 0 k f : S1x1024x2048.Idx)).trans (congrArg (W c (Proc.devRef .tc main_arg3) : S8x1024x2048.Idx → EReal) ?_)
  refine ext3 (n := ![8, 1024, 2048]) _ _ ?_ ?_ ?_
  · exact (Window.rect_emb_val ((cfg1 a).win 2) t (ix3 0 k f : S1x1024x2048.Idx) (0 : Fin 3)).trans
      ((congrArg (· * 1 + 0) (tr2_apply a t i ht e he)).trans (show e.val * 1 + 0 = e.val by omega))
  · exact (Window.rect_emb_val ((cfg1 a).win 2) t (ix3 0 k f : S1x1024x2048.Idx) (1 : Fin 3)).trans (show 0 * 1024 + k.val = k.val by omega)
  · exact (Window.rect_emb_val ((cfg1 a).win 2) t (ix3 0 k f : S1x1024x2048.Idx) (2 : Fin 3)).trans (show 0 * 2048 + f.val = f.val by omega)

/-- A block of an expert's weights. -/
theorem blk1_3 (c : Dev nD) (t : Fin (cfg1 a).N) (i : Fin 40) (ht : t.val = i.val) (e : Fin 8)
    (he : (a.1 0 : S40.Idx → BitVec 32) (Idealize.ShloMosaic.ix1 i) = BitVec.ofNat 32 e.val) (k : Fin 2048) (f : Fin 1024) :
    (iblk1 a W c 3 t : S1x2048x1024.Idx → EReal) (ix3 0 k f) = (W c (Proc.devRef .tc main_arg4) : S8x2048x1024.Idx → EReal) (ix3 e k f) := by
  refine (read1_3 a W c t (ix3 0 k f : S1x2048x1024.Idx)).trans (congrArg (W c (Proc.devRef .tc main_arg4) : S8x2048x1024.Idx → EReal) ?_)
  refine ext3 (n := ![8, 2048, 1024]) _ _ ?_ ?_ ?_
  · exact (Window.rect_emb_val ((cfg1 a).win 3) t (ix3 0 k f : S1x2048x1024.Idx) (0 : Fin 3)).trans
      ((congrArg (· * 1 + 0) (tr3_apply a t i ht e he)).trans (show e.val * 1 + 0 = e.val by omega))
  · exact (Window.rect_emb_val ((cfg1 a).win 3) t (ix3 0 k f : S1x2048x1024.Idx) (1 : Fin 3)).trans (show 0 * 2048 + k.val = k.val by omega)
  · exact (Window.rect_emb_val ((cfg1 a).win 3) t (ix3 0 k f : S1x2048x1024.Idx) (2 : Fin 3)).trans (show 0 * 1024 + f.val = f.val by omega)

/-- A block of sorted weights. -/
theorem blk1_4 (c : Dev nD) (t : Fin (cfg1 a).N) (i : Fin 40) (ht : t.val = i.val) (r : Fin 128) :
    (iblk1 a W c 4 t : S1x1x128.Idx → EReal) (ix3 0 0 r) = (W c (Proc.devRef .tc main_v8) : S40x1x128.Idx → EReal) (ix3 i 0 r) := by
  refine (read1_4 a W c t (ix3 0 0 r : S1x1x128.Idx)).trans (congrArg (W c (Proc.devRef .tc main_v8) : S40x1x128.Idx → EReal) ?_)
  refine ext3 (n := ![40, 1, 128]) _ _ ?_ ?_ ?_
  · exact (Window.rect_emb_val ((cfg1 a).win 4) t (ix3 0 0 r : S1x1x128.Idx) (0 : Fin 3)).trans
      ((congrArg (· * 1 + 0) ((tr4_apply t).trans ht)).trans (show i.val * 1 + 0 = i.val by omega))
  · exact (Window.rect_emb_val ((cfg1 a).win 4) t (ix3 0 0 r : S1x1x128.Idx) (1 : Fin 3)).trans (show 0 * 1 + 0 = 0 by omega)
  · exact (Window.rect_emb_val ((cfg1 a).win 4) t (ix3 0 0 r : S1x1x128.Idx) (2 : Fin 3)).trans (show 0 * 128 + r.val = r.val by omega)

/-- Where a row of the result's block lies in the result. -/
theorem blk1_5_emb (t : Fin (cfg1 a).N) (i : Fin 40) (ht : t.val = i.val) (r : Fin 128) (d : Fin 1024) (s : Fin 5120)
    (hs : s.val = i.val * 128 + r.val) : (((cfg1 a).win 5).blk t).view.emb (ix2 r d : S128x1024.Idx) = (ix2 s d : S5120x1024.Idx) := by
  refine ext2 (n := ![5120, 1024]) _ _ ?_ ?_
  · exact (Window.rect_emb_val ((cfg1 a).win 5) t (ix2 r d : S128x1024.Idx) (0 : Fin 2)).trans
      ((congrArg (· * 128 + r.val) ((tr5_apply t).trans ht)).trans hs.symm)
  · exact (Window.rect_emb_val ((cfg1 a).win 5) t (ix2 r d : S128x1024.Idx) (1 : Fin 2)).trans (show 0 * 1024 + d.val = d.val by omega)

/-- The first coordinate in the result of a place of its block. -/
theorem blk1_5_row (t : Fin (cfg1 a).N) (y : S128x1024.Idx) (q : S5120x1024.Idx) (h : (((cfg1 a).win 5).blk t).view.emb y = q) :
    ∃ k : Fin 128, (q 0).val = t.val * 128 + k.val := by
  refine ⟨y 0, ?_⟩
  rw [← h]
  exact (Window.rect_emb_val ((cfg1 a).win 5) t y (0 : Fin 2)).trans (congrArg (· * 128 + (y 0).val) (tr5_apply t))

/-- Two points' blocks of the result do not meet. -/
theorem disj1_5 (t t' : Fin (cfg1 a).N) (h : t ≠ t') :
    Disjoint (((cfg1 a).win 5).blk t).view.set (((cfg1 a).win 5).blk t').view.set := by
  rw [Finset.disjoint_left]
  intro z h1 h2
  obtain ⟨y, hy⟩ := View.exists_emb_of_mem_set _ h1
  obtain ⟨y', hy'⟩ := View.exists_emb_of_mem_set _ h2
  obtain ⟨k, e1⟩ := blk1_5_row a t y z hy
  obtain ⟨k', e2⟩ := blk1_5_row a t' y' z hy'
  exact h (Fin.ext (by omega))

/-- The result of the expert call at a place: the place's weight times its row through the tile's expert. -/
theorem gemm_apply (c : Dev nD) (X : S5120x1024.Idx → EReal) (w1 w3 : S8x1024x2048.Idx → EReal) (w2 : S8x2048x1024.Idx → EReal)
    (ws : S40x1x128.Idx → EReal) (hX : W c (Proc.devRef .tc main_v9) = X) (h1 : W c (Proc.devRef .tc main_arg2) = w1)
    (h3 : W c (Proc.devRef .tc main_arg3) = w3) (h2 : W c (Proc.devRef .tc main_arg4) = w2) (hws : W c (Proc.devRef .tc main_v8) = ws)
    (i : Fin 40) (r : Fin 128) (s : Fin 5120) (hs : s.val = i.val * 128 + r.val) (d : Fin 1024) (e : Fin 8)
    (he : (a.1 0 : S40.Idx → BitVec 32) (Idealize.ShloMosaic.ix1 i) = BitVec.ofNat 32 e.val) :
    (Pipeline.afterRegion (dat1 a W c) (W c) (Proc.devRef .tc main_v10) : S5120x1024.Idx → EReal) (ix2 s d)
      = ws (ix3 i 0 r) * ffn (fun k => X (ix2 s k)) (fun k f => w1 (ix3 e k f)) (fun k f => w3 (ix3 e k f)) (fun f => w2 (ix3 e f d)) := by
  subst hX h1 h3 h2 hws
  have ht : i.val < (cfg1 a).N := i.isLt.trans_eq N_1.symm
  refine (congrFun (Pipeline.afterRegion_arr (dat1 a W c) (W c) winFacts1.arr_inj 5) (ix2 s d)).trans ?_
  have hf := (dat1 a W c).arrAt_emb_eq_flushed 5 (fun t t' _ _ h => disj1_5 a t t' h) ⟨i.val, ht⟩ (flush1_5 a _) (ix2 r d : S128x1024.Idx)
  rw [blk1_5_emb a ⟨i.val, ht⟩ i rfl r d s hs] at hf
  refine hf.trans ?_
  refine (congrFun (after1_5 a W c ⟨i.val, ht⟩) (ix2 r d : S128x1024.Idx)).trans ?_
  refine (pay_apply _ _ _ _ _ r d).trans ?_
  rw [blk1_4 a W c ⟨i.val, ht⟩ i rfl r]
  simp only [blk1_0 a W c ⟨i.val, ht⟩ i rfl r _ s hs, blk1_1 a W c ⟨i.val, ht⟩ i rfl e he, blk1_2 a W c ⟨i.val, ht⟩ i rfl e he,
    blk1_3 a W c ⟨i.val, ht⟩ i rfl e he]

end Cert.KernelIdeal.Run

end
-- ==== Proof.KernelIdeal.KernelValue.lean ====
module

public import proofs.«01_k».proof.Proof.KernelIdeal.Lists
public import proofs.«01_k».proof.Proof.KernelIdeal.Take
public import proofs.«01_k».proof.Proof.KernelIdeal.GemmValue

@[expose] public section

set_option maxRecDepth 16384

noncomputable section

namespace Cert.KernelIdeal.Run

open Cert.KernelIdeal Cert.KernelIdeal.Gen
open Idealize.ShloMosaic Idealize.ShloMosaic.TcCoe Idealize.ShloMosaic.Pointwise
open Idealize.SL Idealize.SL.Sem

/-! ## The kernel's result in closed form -/

variable (m : (ℓ : Loc nD τ sig) → Buf (Elt Ideal) ℓ) (hok : TblOk m)

/-- One expert's output at a token and a feature. -/
def expert (x : Fin 1024 → EReal) (w1 w3 : S8x1024x2048.Idx → EReal) (w2 : S8x2048x1024.Idx → EReal) (e : Fin 8) (d : Fin 1024) : EReal :=
  ffn x (fun k f => w1 (ix3 e k f)) (fun k f => w3 (ix3 e k f)) (fun f => w2 (ix3 e f d))

/-- The three stacks of expert weights. -/
def up (c : Dev nD) : S8x1024x2048.Idx → EReal := m ((c : Thread nD τ).loc main_arg2)
def gate (c : Dev nD) : S8x1024x2048.Idx → EReal := m ((c : Thread nD τ).loc main_arg3)
def down (c : Dev nD) : S8x2048x1024.Idx → EReal := m ((c : Thread nD τ).loc main_arg4)

omit m hok in
/-- Two lists of rows added and laid out as the result. -/
theorem result_apply (v : S1x2048x1024.Idx → EReal) (y0 y1 : S2048x1024.Idx → EReal)
    (hv : v = shapeCast S1x2048x1024 (addf (F := Ideal) (φ := .f32) y0 y1) shapeCasts_S2048x1024_S1x2048x1024) (t : Fin 2048) (d : Fin 1024) :
    v (ix3 0 t d) = y0 (ix2 t d) + y1 (ix2 t d) := by
  subst hv
  pointwise

variable (a b : Fin 2048 → Fin 8) (h : ∀ t, IsTop2 (fun e => k0_pay2 (F := Ideal) (tok m 0) (wgt m 0) (ix2 t e)) (a t) (b t))
  (hp : ∀ t e, (((-(1 : ℝ) : ℝ) : EReal)) < k0_pay2 (F := Ideal) (tok m 0) (wgt m 0) (ix2 t e))
include h hp

/-- The expert call's result at a token's first place. -/
theorem place0_value (t : Fin 2048) (d : Fin 1024) (s : Fin 5120) (hs : s.val = place0 a b t) :
    (A2 m hok 0 (Proc.devRef .tc main_v10) : S5120x1024.Idx → EReal) (ix2 s d)
      = k0_pay2 (F := Ideal) (tok m 0) (wgt m 0) (ix2 t (a t)) * expert (fun k => tok m 0 (ix2 t k)) (up m 0) (gate m 0) (down m 0) (a t) d := by
  have e : s.val = s.val / 128 * 128 + s.val % 128 := by omega
  refine (gemm_apply ⟨tbl m, hok⟩ (B m) 0 _ _ _ _ _ (B_v9 m 0) (B_arg2 m 0) (B_arg3 m 0) (B_arg4 m 0) (B_v8 m 0)
    ⟨s.val / 128, by omega⟩ ⟨s.val % 128, by omega⟩ s e d (a t) ?_).trans ?_
  · refine (congrFun (tbl_eq m) _).trans (tbl_apply _ _ a b h hp (a t) ⟨s.val / 128, by omega⟩ s.val rfl ?_ ?_)
    · rw [hs]; exact place0_le a b t
    · rw [hs]; exact place0_lt a b t
  · rw [wt0_apply _ _ a b h hp t ⟨s.val / 128, by omega⟩ ⟨s.val % 128, by omega⟩ (by rw [← hs]; show 128 * (s.val / 128) + s.val % 128 = _; omega)]
    simp only [takeX_apply _ _ s _ t (row0_apply _ _ a b h hp t s hs)]
    rfl

/-- The expert call's result at a token's second place. -/
theorem place1_value (t : Fin 2048) (d : Fin 1024) (s : Fin 5120) (hs : s.val = place1 a b t) :
    (A2 m hok 0 (Proc.devRef .tc main_v10) : S5120x1024.Idx → EReal) (ix2 s d)
      = k0_pay2 (F := Ideal) (tok m 0) (wgt m 0) (ix2 t (b t)) * expert (fun k => tok m 0 (ix2 t k)) (up m 0) (gate m 0) (down m 0) (b t) d := by
  have e : s.val = s.val / 128 * 128 + s.val % 128 := by omega
  refine (gemm_apply ⟨tbl m, hok⟩ (B m) 0 _ _ _ _ _ (B_v9 m 0) (B_arg2 m 0) (B_arg3 m 0) (B_arg4 m 0) (B_v8 m 0)
    ⟨s.val / 128, by omega⟩ ⟨s.val % 128, by omega⟩ s e d (b t) ?_).trans ?_
  · refine (congrFun (tbl_eq m) _).trans (tbl_apply _ _ a b h hp (b t) ⟨s.val / 128, by omega⟩ s.val rfl ?_ ?_)
    · rw [hs]; exact place1_le a b t
    · rw [hs]; exact place1_lt a b t
  · rw [wt1_apply _ _ a b h hp t ⟨s.val / 128, by omega⟩ ⟨s.val % 128, by omega⟩ (by rw [← hs]; show 128 * (s.val / 128) + s.val % 128 = _; omega)]
    simp only [takeX_apply _ _ s _ t (row1_apply _ _ a b h hp t s hs)]
    rfl

/-- The kernel's result: each token's two experts' outputs, weighted by the token's two largest probabilities. -/
theorem kernel_value (t : Fin 2048) (d : Fin 1024) :
    (V10 m (outs m hok) 0 (Proc.devRef .tc main_v18) : S1x2048x1024.Idx → EReal) (ix3 0 t d)
      = k0_pay2 (F := Ideal) (tok m 0) (wgt m 0) (ix2 t (a t)) * expert (fun k => tok m 0 (ix2 t k)) (up m 0) (gate m 0) (down m 0) (a t) d
        + k0_pay2 (F := Ideal) (tok m 0) (wgt m 0) (ix2 t (b t)) * expert (fun k => tok m 0 (ix2 t k)) (up m 0) (gate m 0) (down m 0) (b t) d := by
  have e0 := takeY_apply (A2 m hok 0 (Proc.devRef .tc main_v10)) _ t d ⟨place0 a b t, place0_lt_5120 a b t⟩ (pos0_apply _ _ a b h hp t)
  have e1 := takeY_apply (A2 m hok 0 (Proc.devRef .tc main_v10)) _ t d ⟨place1 a b t, place1_lt_5120 a b t⟩ (pos1_apply _ _ a b h hp t)
  rw [place0_value m hok a b h hp t d ⟨place0 a b t, place0_lt_5120 a b t⟩ rfl] at e0
  rw [place1_value m hok a b h hp t d ⟨place1 a b t, place1_lt_5120 a b t⟩ rfl] at e1
  exact (result_apply _ _ _ (V10_v18 m hok 0) t d).trans (congrArg₂ (· + ·) e0 e1)

end Cert.KernelIdeal.Run

end
-- ==== Proof.ReferenceIdeal.Value.lean ====
module

public import proofs.«01_k».proof.Proof.Gen.ReferenceIdeal.Run
public import proofs.«01_k».proof.Proof.KernelIdeal.Probs
public import proofs.«01_k».proof.Proof.KernelIdeal.Sort
public import proofs.«01_k».proof.Proof.KernelIdeal.KernelValue
public import Idealize.ShloMosaic.Lib.Pointwise
public import Idealize.ShloMosaic.Lib.StableHlo.Predicate

/-!
  The reference's result read at one position: the two most probable experts' outputs, each times its probability.
-/

@[expose] public section
set_option maxRecDepth 16384
noncomputable section
namespace Cert.ReferenceIdeal.Read
open Idealize.ShloMosaic Cert.ReferenceIdeal Cert.ReferenceIdeal.Gen Idealize.ShloMosaic.Pointwise
open Cert.KernelIdeal.Run (prob logit expert ffn IsTop2 topK_top2)

/-- The reference's router probabilities. -/
def probs (x : FVec Ideal S2048x1024 .f32) (w : FVec Ideal S1024x8 .f32) : FVec Ideal S2048x8 .f32 :=
  let l := Host.dotGeneral dot_S2048x1024_S1024x8_S2048x8_1_0_0_1_n_n none x w
  let ex := Host.exp (subf l (broadcastInDim S2048x8 ![0, 1] bcast_S2048x1_S2048x8_0_1 (broadcastInDim S2048x1 ![0] bcast_S2048_S2048x1_0
    (maximumf (broadcastInDim S2048 ![] bcast_S_S2048 (constant S_ .f32 0xFF800000#32))
      (Host.reduce FloatOps.maximumf l (constant S_ .f32 0xFF800000#32) reducesTo_S2048x8_S2048_d1 h_S_)))))
  Host.divf ex (broadcastInDim S2048x8 ![0, 1] bcast_S2048x1_S2048x8_0_1 (broadcastInDim S2048x1 ![0] bcast_S2048_S2048x1_0
    (Host.reduceAdd ex (constant S_ .f32 0x00000000#32) reducesTo_S2048x8_S2048_d1 h_S_)))

/-- The reference's weight of every expert at every token, from the two chosen. -/
def combine (i : IVec S2048x2 32) (v : FVec Ideal S2048x2 .f32) : FVec Ideal S2048x8 .f32 :=
  Host.reduceAdd (mulf (uitofp .f32 (cmpi .eq
      (broadcastInDim S2048x2x8 ![0, 1, 2] bcast_S2048x2x1_S2048x2x8_0_1_2 (broadcastInDim S2048x2x1 ![0, 1] bcast_S2048x2_S2048x2x1_0_1 i))
      (broadcastInDim S2048x2x8 ![0, 1, 2] bcast_S1x1x8_S2048x2x8_0_1_2 (iotaInDim S1x1x8 32 2))))
    (broadcastInDim S2048x2x8 ![0, 1, 2] bcast_S2048x2x1_S2048x2x8_0_1_2 (broadcastInDim S2048x2x1 ![0, 1] bcast_S2048x2_S2048x2x1_0_1 v)))
    (constant S_ .f32 0x00000000#32) reducesTo_S2048x2x8_S2048x8_d1 h_S_

/-- One of the reference's two products of the tokens with every expert's weights. -/
def inner (x : FVec Ideal S2048x1024 .f32) (w : FVec Ideal S8x1024x2048 .f32) : FVec Ideal S8x2048x2048 .f32 :=
  transpose S8x2048x2048 [0, 2, 1] (Host.dotGeneral dot_S8x1024x2048_S2048x1024_S8x2048x2048_1_1_02_0_n_n none w x)
    transposes_S8x2048x2048_S8x2048x2048_0_2_1

/-- The reference's silu. -/
def silu (h : FVec Ideal S8x2048x2048 .f32) : FVec Ideal S8x2048x2048 .f32 :=
  mulf h (Host.divf (broadcastInDim S8x2048x2048 ![] bcast_S_S8x2048x2048 (constant S_ .f32 0x3F800000#32))
    (addf (broadcastInDim S8x2048x2048 ![] bcast_S_S8x2048x2048 (constant S_ .f32 0x3F800000#32)) (Host.exp (Host.negf h))))

/-- The reference's output of every expert at every token. -/
def outs (h g : FVec Ideal S8x2048x2048 .f32) (w : FVec Ideal S8x2048x1024 .f32) : FVec Ideal S8x2048x1024 .f32 :=
  Host.dotGeneral dot_S8x2048x2048_S8x2048x1024_S8x2048x1024_2_1_1_2_0_0 none (mulf (silu h) g) w

/-- The reference's mixture of the experts' outputs. -/
def mix (c : FVec Ideal S2048x8 .f32) (y : FVec Ideal S8x2048x1024 .f32) : FVec Ideal S1x2048x1024 .f32 :=
  shapeCast _ (Host.dotGeneral dot_S2048x8_S8x2048x1024_S2048x1024_1_0_n_2_0_1 none c y) shapeCasts_S2048x1024_S1x2048x1024

/-- The experts chosen and their weights. -/
def chosen (p : FVec Ideal S2048x8 .f32) : FVec Ideal S2048x2 .f32 × IVec S2048x2 32 :=
  Host.topK S2048x2 1 (FloatOps.cmpfTotal .gt) p sliceFits_S2048x8_S2048x2

/-- The reference's router probabilities are the softmax of the logits. -/
theorem probs_apply (x : FVec Ideal S2048x1024 .f32) (w : FVec Ideal S1024x8 .f32) (t : Fin 2048) (e : Fin 8) :
    probs x w (ix2 t e) = prob (logit (fun k => x (ix2 t k)) fun k e => w (ix2 k e)) e := by
  pointwise [probs]
  rw [max_eq_right ((Finset.le_fold_max _).2 (Or.inl le_rfl))]
  rfl

/-- A flag as a number: one where two words are equal, else zero. -/
theorem flag_eq (p q : BitVec 32) :
    (FloatOps.uitofp (F := Ideal) FTy.f32 (IntOp.cmpi CmpIPredicate.eq p q) : EReal) = if p = q then 1 else 0 := by
  by_cases h : p = q
  · subst h
    rw [if_pos rfl, StableHlo.Predicate.cmpi_eq_iff.2 rfl]
    show (((1 : ℕ) : ℝ) : EReal) = 1
    norm_num
  · have h0 : IntOp.cmpi CmpIPredicate.eq p q = 0#1 :=
      (BitVec.eq_zero_or_eq_one _).resolve_right fun h1 => h (StableHlo.Predicate.cmpi_eq_iff.1 h1)
    rw [if_neg h, h0]
    show (((0 : ℕ) : ℝ) : EReal) = 0
    norm_num

/-- Words of two experts are equal only when the experts are. -/
theorem word_eq (a e : Fin 8) : BitVec.ofNat 32 a.val = BitVec.ofNat 32 e.val ↔ a = e := by
  revert a e; decide

/-- The reference's weight of an expert: the weights of the two chosen, where they are it. -/
theorem combine_apply (i : IVec S2048x2 32) (v : FVec Ideal S2048x2 .f32) (t : Fin 2048) (e a b : Fin 8)
    (ha : i (ix2 t 0) = BitVec.ofNat 32 a.val) (hb : i (ix2 t 1) = BitVec.ofNat 32 b.val) :
    combine i v (ix2 t e) = (if a = e then (1 : EReal) else 0) * v (ix2 t 0) + (if b = e then (1 : EReal) else 0) * v (ix2 t 1) := by
  pointwise [combine]
  rw [Fin.sum_univ_two, ha, hb, flag_eq, flag_eq]
  simp only [word_eq]

/-- An entry of a product of the tokens with an expert's weights. -/
theorem inner_apply (x : FVec Ideal S2048x1024 .f32) (w : FVec Ideal S8x1024x2048 .f32) (e : Fin 8) (t f : Fin 2048) :
    inner x w (ix3 e t f) = ∑ k, x (ix2 t k) * w (ix3 e k f) := by
  pointwise [inner]
  exact Finset.sum_congr rfl fun k _ => mul_comm _ _

/-- An entry of an expert's output. -/
theorem outs_apply (h g : FVec Ideal S8x2048x2048 .f32) (w : FVec Ideal S8x2048x1024 .f32) (e : Fin 8) (t : Fin 2048) (d : Fin 1024) :
    outs h g w (ix3 e t d) = ∑ f, h (ix3 e t f) * Ideal.logistic (h (ix3 e t f)) * g (ix3 e t f) * w (ix3 e f d) := by
  pointwise [outs, silu]
  rfl

/-- An entry of the mixture. -/
theorem mix_apply (c : FVec Ideal S2048x8 .f32) (y : FVec Ideal S8x2048x1024 .f32) (t : Fin 2048) (d : Fin 1024) :
    mix c y (ix3 0 t d) = ∑ e, c (ix2 t e) * y (ix3 e t d) := by
  pointwise [mix]

/-- The reference's output of an expert is the expert's. -/
theorem outs_expert (x : FVec Ideal S2048x1024 .f32) (w1 w3 : FVec Ideal S8x1024x2048 .f32) (w2 : FVec Ideal S8x2048x1024 .f32)
    (e : Fin 8) (t : Fin 2048) (d : Fin 1024) :
    outs (inner x w1) (inner x w3) w2 (ix3 e t d) = expert (fun k => x (ix2 t k)) w1 w3 w2 e d := by
  rw [outs_apply]
  unfold expert ffn
  refine Finset.sum_congr rfl fun f _ => ?_
  rw [inner_apply, inner_apply]

/-- A sum weighted at two indices only. -/
theorem sum_two (a b : Fin 8) (hab : a ≠ b) (va vb : EReal) (y : Fin 8 → EReal) :
    ∑ e, ((if a = e then (1 : EReal) else 0) * va + (if b = e then (1 : EReal) else 0) * vb) * y e = va * y a + vb * y b := by
  rw [Fintype.sum_eq_add a b hab fun e he => by
    rw [if_neg (Ne.symm he.1), if_neg (Ne.symm he.2), zero_mul, zero_mul, add_zero, zero_mul]]
  rw [if_pos rfl, if_pos rfl, if_neg hab, if_neg (Ne.symm hab), one_mul, one_mul, zero_mul, zero_mul, add_zero, zero_add]

/-- The reference's mixture, read at a token and a column: the two best experts' outputs, each times its probability. -/
theorem mix_top2 (p : FVec Ideal S2048x8 .f32) (y : FVec Ideal S8x2048x1024 .f32) (t : Fin 2048) (d : Fin 1024) (a b : Fin 8)
    (h : IsTop2 (fun e => p (ix2 t e)) a b) :
    mix (combine (chosen p).2 (chosen p).1) y (ix3 0 t d) = p (ix2 t a) * y (ix3 a t d) + p (ix2 t b) * y (ix3 b t d) := by
  obtain ⟨⟨h0, h1⟩, i0, i1⟩ := topK_top2 p sliceFits_S2048x8_S2048x2 t h
  rw [mix_apply]
  refine (Finset.sum_congr rfl fun e _ => congrArg (· * y (ix3 e t d)) (combine_apply (chosen p).2 (chosen p).1 t e a b i0 i1)).trans ?_
  refine (sum_two a b h.ne.symm _ _ fun e => y (ix3 e t d)).trans ?_
  exact congrArg₂ (· + ·) (congrArg (· * _) h0) (congrArg (· * _) h1)

/-- The reference's result, by its parts. -/
theorem res_eq (m : (ℓ : Loc nD τ sig) → Buf (Elt Ideal) ℓ) (c : Dev nD) (x : FVec Ideal S2048x1024 .f32)
    (hx : x = shapeCast _ (m ((c.tc : Thread nD τ).loc main_arg0)) shapeCasts_S1x2048x1024_S2048x1024) :
    Value.res_main_v26 m c = mix
      (combine (chosen (probs x (m ((c.tc : Thread nD τ).loc main_arg1)))).2 (chosen (probs x (m ((c.tc : Thread nD τ).loc main_arg1)))).1)
      (outs (inner x (m ((c.tc : Thread nD τ).loc main_arg2))) (inner x (m ((c.tc : Thread nD τ).loc main_arg3)))
        (m ((c.tc : Thread nD τ).loc main_arg4))) := by
  subst hx
  rfl

/-- The reference's result at a token and a column: the two best experts' outputs, each times its probability. -/
theorem res_value (m : (ℓ : Loc nD τ sig) → Buf (Elt Ideal) ℓ) (c : Dev nD) (x : FVec Ideal S2048x1024 .f32)
    (w : FVec Ideal S1024x8 .f32) (w1 w3 : FVec Ideal S8x1024x2048 .f32) (w2 : FVec Ideal S8x2048x1024 .f32)
    (hx : x = shapeCast _ (m ((c.tc : Thread nD τ).loc main_arg0)) shapeCasts_S1x2048x1024_S2048x1024)
    (hw : w = m ((c.tc : Thread nD τ).loc main_arg1)) (hw1 : w1 = m ((c.tc : Thread nD τ).loc main_arg2))
    (hw3 : w3 = m ((c.tc : Thread nD τ).loc main_arg3)) (hw2 : w2 = m ((c.tc : Thread nD τ).loc main_arg4))
    (a b : Fin 8) (t : Fin 2048) (d : Fin 1024)
    (h : IsTop2 (prob (logit (fun k => x (ix2 t k)) fun k e => w (ix2 k e))) a b) :
    (Value.res_main_v26 m c : S1x2048x1024.Idx → EReal) (ix3 0 t d)
      = prob (logit (fun k => x (ix2 t k)) fun k e => w (ix2 k e)) a * expert (fun k => x (ix2 t k)) w1 w3 w2 a d
        + prob (logit (fun k => x (ix2 t k)) fun k e => w (ix2 k e)) b * expert (fun k => x (ix2 t k)) w1 w3 w2 b d := by
  have hp : (fun e => probs x w (ix2 t e)) = prob (logit (fun k => x (ix2 t k)) fun k e => w (ix2 k e)) :=
    funext fun e => probs_apply x w t e
  rw [res_eq m c x hx, ← hw, ← hw1, ← hw3, ← hw2, mix_top2 _ _ t d a b (hp ▸ h), outs_expert, outs_expert, probs_apply, probs_apply]

end Cert.ReferenceIdeal.Read

end
-- ==== Proof.Algebraic.lean ====
module

public import proofs.«01_k».proof.Defs
public import proofs.«01_k».proof.Proof.Frames
public import proofs.«01_k».proof.Proof.Finite
public import proofs.«01_k».proof.Proof.ReferenceIdeal.Value

/-!
  The kernel and the reference end with the same result, over extended reals.
-/

@[expose] public section
set_option maxRecDepth 16384
noncomputable section
namespace Cert.Proof
open Idealize.ShloMosaic Idealize.SL.Sem Idealize.ShloMosaic.Pointwise
open Cert.KernelIdeal.Run (prob logit logit_real prob_gt k0_pay2_prob tok wgt tok_eq exists_top2 IsTop2 tblOk_of tileWord_le kernel_value expert up gate down outs)
open Cert.KernelIdeal.Gen (V10)

/-- A reshaped array of reals is of reals. -/
theorem real_cast {s t : Shape} (x : s.Idx → EReal) (h : s.ShapeCasts t) (hx : ∀ i, ∃ r : ℝ, x i = (r : EReal)) (i : t.Idx) :
    ∃ r : ℝ, shapeCast t x h i = (r : EReal) := hx _

/-- Where the tokens and the router's weights are finite, the kernel's result is the reference's, from memories that agree on the arguments. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h0 : m' (((0 : Dev Cert.ReferenceIdeal.nD).tc : Thread Cert.ReferenceIdeal.nD Cert.ReferenceIdeal.τ).loc Cert.ReferenceIdeal.main_arg0) = m (((0 : Dev Cert.KernelIdeal.nD).tc : Thread Cert.KernelIdeal.nD Cert.KernelIdeal.τ).loc Cert.KernelIdeal.main_arg0))
    (h1 : m' (((0 : Dev Cert.ReferenceIdeal.nD).tc : Thread Cert.ReferenceIdeal.nD Cert.ReferenceIdeal.τ).loc Cert.ReferenceIdeal.main_arg1) = m (((0 : Dev Cert.KernelIdeal.nD).tc : Thread Cert.KernelIdeal.nD Cert.KernelIdeal.τ).loc Cert.KernelIdeal.main_arg1))
    (h2 : m' (((0 : Dev Cert.ReferenceIdeal.nD).tc : Thread Cert.ReferenceIdeal.nD Cert.ReferenceIdeal.τ).loc Cert.ReferenceIdeal.main_arg2) = m (((0 : Dev Cert.KernelIdeal.nD).tc : Thread Cert.KernelIdeal.nD Cert.KernelIdeal.τ).loc Cert.KernelIdeal.main_arg2))
    (h3 : m' (((0 : Dev Cert.ReferenceIdeal.nD).tc : Thread Cert.ReferenceIdeal.nD Cert.ReferenceIdeal.τ).loc Cert.ReferenceIdeal.main_arg3) = m (((0 : Dev Cert.KernelIdeal.nD).tc : Thread Cert.KernelIdeal.nD Cert.KernelIdeal.τ).loc Cert.KernelIdeal.main_arg3))
    (h4 : m' (((0 : Dev Cert.ReferenceIdeal.nD).tc : Thread Cert.ReferenceIdeal.nD Cert.ReferenceIdeal.τ).loc Cert.ReferenceIdeal.main_arg4) = m (((0 : Dev Cert.KernelIdeal.nD).tc : Thread Cert.KernelIdeal.nD Cert.KernelIdeal.τ).loc Cert.KernelIdeal.main_arg4))
    (hx : ∀ i : Cert.KernelIdeal.S2048x1024.Idx, ∃ r : ℝ, (tok m 0 : Cert.KernelIdeal.S2048x1024.Idx → EReal) i = (r : EReal))
    (hw : ∀ i : Cert.KernelIdeal.S1024x8.Idx, ∃ r : ℝ, (wgt m 0 : Cert.KernelIdeal.S1024x8.Idx → EReal) i = (r : EReal)) :
    (Cert.ReferenceIdeal.Value.res_main_v26 (F := Ideal) m' 0 : Cert.KernelIdeal.S1x2048x1024.Idx → EReal)
      = (V10 m (outs m (tblOk_of m tileWord_le)) 0 (Proc.devRef .tc Cert.KernelIdeal.main_v18) : Cert.KernelIdeal.S1x2048x1024.Idx → EReal) := by
  have hP : ∀ t : Fin 2048, ∃ p : Fin 8 × Fin 8, IsTop2 (prob (logit (fun k => tok m 0 (ix2 t k)) fun k e => wgt m 0 (ix2 k e))) p.1 p.2 := fun t => by
    obtain ⟨i, j, h⟩ := exists_top2 (prob (logit (fun k => tok m 0 (ix2 t k)) fun k e => wgt m 0 (ix2 k e)))
    exact ⟨(i, j), h⟩
  choose p hp using hP
  have hk := fun t => k0_pay2_prob (tok m 0) (wgt m 0) t
  funext i
  obtain ⟨t, d, rfl⟩ : ∃ (t : Fin 2048) (d : Fin 1024), i = ix3 (0 : Fin 1) t d := ⟨i 1, i 2, by
    funext a
    apply Fin.ext
    match a with
    | ⟨0, _⟩ => exact Nat.lt_one_iff.1 (i 0).isLt
    | ⟨1, _⟩ => rfl
    | ⟨2, _⟩ => rfl⟩
  refine (Cert.ReferenceIdeal.Read.res_value m' 0 (tok m 0) (wgt m 0) (up m 0) (gate m 0) (down m 0)
    ((tok_eq m 0).trans (by rw [h0])) h1.symm h2.symm h3.symm h4.symm (p t).1 (p t).2 t d (hp t)).trans ?_
  refine ((kernel_value m (tblOk_of m tileWord_le) (fun t => (p t).1) (fun t => (p t).2) (fun t => ?_) (fun t e => ?_) t d).trans ?_).symm
  · rw [funext (hk t)]; exact hp t
  · rw [hk t e]
    exact prob_gt _ (fun e => logit_real _ _ (fun k => hx _) (fun k e => hw _) e) e
  · rw [hk t, hk t]

/-- The kernel's run ends with its result array at the host's last contents and the arguments unchanged; the reference's ends with the same result. -/
theorem algebraic : Cert.algebraic_KernelIdeal_ReferenceIdeal_pre_finite_router (hKernelIdeal := Cert.KernelIdeal.Gen.facts)
    (hReferenceIdeal := Cert.ReferenceIdeal.Gen.facts) (hPre_finite_router := Cert.Pre_finite_router.facts) := by
  intro m g m' g' hpre hargs
  refine ⟨fun c => V10 m (outs m (tblOk_of m tileWord_le)) c (Proc.devRef .tc Cert.KernelIdeal.main_v18), ?_, ?_⟩
  · exact (θ_run _ _ _).mono (fun _ h c => h.1 c) (Cert.KernelIdeal.Run.run m g (tblOk_of m tileWord_le))
  · refine (θ_run _ _ _).mono (fun r h c => ⟨(h c).1.trans ?_, (h c).2⟩) (Cert.ReferenceIdeal.Value.run (F := Ideal) m' g')
    obtain rfl : c = 0 := Subsingleton.elim _ _
    letI := Cert.Pre_finite_router.facts
    obtain ⟨hx, hw⟩ := Cert.Pre_finite_router.real_of_fn _ _ _ _ _ (hpre 0)
    obtain ⟨a0, a1, a2, a3, a4⟩ := hargs 0
    refine result_eq m m' a0 a1 a2 a3 a4 (fun i => ?_) (fun i => hw i)
    rw [tok_eq m 0]
    exact real_cast _ _ hx i

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Bound
public import proofs.«01_k».proof.Proof.KernelIdeal.Bound
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_router.facts, frame_kernel, frame_ideal,
    fun m g _ => frame_ideal m g trivial, frame_reference, fun m g _ => frame_reference m g trivial, trivial, algebraic⟩

end Cert.Proof

end
